-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S2x1024x1024 : Shape := ⟨3, ![2, 1024, 1024]⟩
abbrev S4x1024x1024 : Shape := ⟨3, ![4, 1024, 1024]⟩
abbrev S3x1024x1024 : Shape := ⟨3, ![3, 1024, 1024]⟩
abbrev S3x1024x2048 : Shape := ⟨3, ![3, 1024, 2048]⟩
abbrev S4x8x128 : Shape := ⟨3, ![4, 8, 128]⟩
abbrev S2 : Shape := ⟨1, ![2]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .bf16⟩
  | .local _ .vmem, ⟨0, _⟩ => ⟨S1024x2048, .bf16⟩
  | .local _ .vmem, ⟨1, _⟩ => ⟨S2x1024x1024, .f32⟩
  | .local _ .vmem, ⟨2, _⟩ => ⟨S4x1024x1024, .bf16⟩
  | .local _ .vmem, ⟨3, _⟩ => ⟨S3x1024x1024, .bf16⟩
  | .local _ .vmem, ⟨4, _⟩ => ⟨S1024x2048, .f32⟩
  | .local _ .vmem, ⟨5, _⟩ => ⟨S3x1024x2048, .bf16⟩
  | .local _ .vmem, ⟨6, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v22 : BitVec 32 := Scalar.muli v2 c1024_i32
  let c0_i32_18 : BitVec 32 := 0#32
  ![v22.toNat, 0]
def k0_off2 (d0 : Dev nD) (c1_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.addi v2 c1_i32_19
  let c4_i32_20 : BitVec 32 := 4#32
  let v25 : BitVec 32 := Scalar.remsi v24 c4_i32_20
  let c1024_i32_21 : BitVec 32 := 1024#32
  let v26 : BitVec 32 := Scalar.muli v25 c1024_i32_21
  let c0_i32_26 : BitVec 32 := 0#32
  ![v26.toNat, 0]
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_54 : BitVec 32 := 1#32
  let v59 : BitVec 32 := Scalar.addi v2 c1_i32_54
  let c4_i32_55 : BitVec 32 := 4#32
  let v60 : BitVec 32 := Scalar.remsi v59 c4_i32_55
  let c1_i32_60 : BitVec 32 := 1#32
  let v61 : BitVec 32 := Scalar.muli v60 c1_i32_60
  let v62 : BitVec 32 := Scalar.addi c0_i32_61 v61
  v62.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_76 : BitVec 32 := 1024#32
  let v82 : BitVec 32 := Scalar.muli v2 c1024_i32_76
  let c0_i32_81 : BitVec 32 := 0#32
  ![v82.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_82 : BitVec 32 := 2#32
  let v88 : BitVec 32 := Scalar.addi v2 c2_i32_82
  let c4_i32_83 : BitVec 32 := 4#32
  let v89 : BitVec 32 := Scalar.remsi v88 c4_i32_83
  let c1_i32_88 : BitVec 32 := 1#32
  let v90 : BitVec 32 := Scalar.muli v89 c1_i32_88
  let v91 : BitVec 32 := Scalar.addi c0_i32_89 v90
  v91.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_104 : BitVec 32 := 3#32
  let v111 : BitVec 32 := Scalar.addi v2 c3_i32_104
  let c4_i32_105 : BitVec 32 := 4#32
  let v112 : BitVec 32 := Scalar.remsi v111 c4_i32_105
  let c1_i32_110 : BitVec 32 := 1#32
  let v113 : BitVec 32 := Scalar.muli v112 c1_i32_110
  let v114 : BitVec 32 := Scalar.addi c0_i32_111 v113
  v114.toNat
def k0_off4 (d0 : Dev nD) (c3_i32_12 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c3_i32_12
  let c4_i32_13 : BitVec 32 := 4#32
  let v17 : BitVec 32 := Scalar.remsi v16 c4_i32_13
  let c1024_i32_132 : BitVec 32 := 1024#32
  let v140 : BitVec 32 := Scalar.muli v17 c1024_i32_132
  let c0_i32_133 : BitVec 32 := 0#32
  ![v140.toNat, 0]
def k0_dev7 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_234 : BitVec 32 := 1#32
  let v240 : BitVec 32 := Scalar.addi v2 c1_i32_234
  let c4_i32_235 : BitVec 32 := 4#32
  let v241 : BitVec 32 := Scalar.remsi v240 c4_i32_235
  let c1_i32_240 : BitVec 32 := 1#32
  let v242 : BitVec 32 := Scalar.muli v241 c1_i32_240
  let v243 : BitVec 32 := Scalar.addi c0_i32_241 v242
  v243.toNat
def k0_dev8 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_246 : BitVec 32 := 2#32
  let v252 : BitVec 32 := Scalar.addi v2 c2_i32_246
  let c4_i32_247 : BitVec 32 := 4#32
  let v253 : BitVec 32 := Scalar.remsi v252 c4_i32_247
  let c1_i32_252 : BitVec 32 := 1#32
  let v254 : BitVec 32 := Scalar.muli v253 c1_i32_252
  let v255 : BitVec 32 := Scalar.addi c0_i32_253 v254
  v255.toNat
def k0_dev9 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_258 : BitVec 32 := 3#32
  let v264 : BitVec 32 := Scalar.addi v2 c3_i32_258
  let c4_i32_259 : BitVec 32 := 4#32
  let v265 : BitVec 32 := Scalar.remsi v264 c4_i32_259
  let c1_i32_264 : BitVec 32 := 1#32
  let v266 : BitVec 32 := Scalar.muli v265 c1_i32_264
  let v267 : BitVec 32 := Scalar.addi c0_i32_265 v266
  v267.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Rules.lean ====
/-
# Rules: a core's steps stated at the VALUES a view holds

`has c v q X` says that core `c` holds the elements under the view `v` at share `q` and that they read `X`. Each rule
below takes one step of a program (a load, a store, a local transfer and its wait, an addressed transfer) from such
holdings to such holdings, so that a kernel's body is followed without naming any buffer's contents outside the views
in use.
-/
module

public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {nD : Nat} {τ : Topo} {sig : RefSig} {Val : EltTy → Type}
variable {Ix : Type} [DecidableEq Ix] {U : Type} [URA U]

local notation "𝕄" => MT nD τ sig Ix Val ℕ U ℕ

/-- The core `c` holds the elements under the view `v` at share `q`, and they read `X`. -/
def has (c : Thread nD τ) {sp : Space} {s : Shape} {e : EltTy} (v : View sig c.2.kind sp s e) (q : PosShare TreeShare)
    (X : s.Idx → Val e) : sProp 𝕄 :=
  iprop(∃ f, ⌜v.read Val f = X⌝ ∗ (v.loc c ↦[v.set]{q} f))

instance has_storable (c : Thread nD τ) {sp : Space} {s : Shape} {e : EltTy} (v : View sig c.2.kind sp s e) (q : PosShare TreeShare)
    (X : s.Idx → Val e) : BI.Storable (upEmb : UEmb _ 𝕄) (has c v q X) := by
  unfold has; infer_instance

/-- A whole buffer held at `X` is the buffer's points-to at `X`. -/
theorem has_whole (c : Thread nD τ) (b : Ref sig c.2.kind) (q : PosShare TreeShare) (X : b.ty.Contents Val) :
    (has c (View.whole b) q X : sProp 𝕄) = ((c.loc b) ↦{q} X) := by
  unfold has
  have h₁ : iprop(∃ f, ⌜(View.whole b).read Val f = X⌝ ∗ ((View.whole b).loc c ↦[(View.whole b).set]{q} f)) ⊢ ((c.loc b) ↦{q} X : sProp 𝕄) := by
    iintro ⟨%f, %hf, H⟩
    rw [View.read_whole] at hf; subst hf
    rw [View.set_whole]; iexact H
  have h₂ : ((c.loc b) ↦{q} X : sProp 𝕄) ⊢ iprop(∃ f, ⌜(View.whole b).read Val f = X⌝ ∗ ((View.whole b).loc c ↦[(View.whole b).set]{q} f)) := by
    iintro H
    iexists X
    isplitr; · ipureintro; exact View.read_whole _ _
    rw [View.set_whole]; iexact H
  exact BI.equiv_iff.mp ⟨h₁, h₂⟩

/-- Contents that read alike through a view are alike under it. -/
theorem eq_on_of_read {κ : Kind} {sp : Space} {s : Shape} {e : EltTy} (v : View sig κ sp s e) {f g : v.ty.Contents Val}
    (h : v.read Val f = v.read Val g) : ∀ i ∈ v.set, f i = g i := by
  intro i hi
  rw [View.set, Finset.mem_map] at hi
  obtain ⟨x, -, rfl⟩ := hi
  have := congrFun h x
  simp only [View.read] at this
  exact (cast_inj _).mp this

/-- A held view splits into two read shares, both reading the same, -/
theorem has_halve (c : Thread nD τ) {sp : Space} {s : Shape} {e : EltTy} (v : View sig c.2.kind sp s e) (q : PosShare TreeShare)
    (X : s.Idx → Val e) : (has c v q X : sProp 𝕄) ⊢ iprop(has c v q.left X ∗ has c v q.right X) := by
  unfold has
  iintro ⟨%f, %hf, H⟩
  ihave H' := (pointsTo_share (PosShare.mem_left_op_right q)).1 $$ H
  icases H' with ⟨H1, H2⟩
  isplitl [H1]
  · iexists f; isplitr; · ipureintro; exact hf
    iexact H1
  · iexists f; isplitr; · ipureintro; exact hf
    iexact H2

/-- and two such shares join again. -/
theorem has_unhalve (c : Thread nD τ) {sp : Space} {s : Shape} {e : EltTy} (v : View sig c.2.kind sp s e) (q : PosShare TreeShare)
    (X : s.Idx → Val e) : iprop(has c v q.left X ∗ has c v q.right X) ⊢ (has c v q X : sProp 𝕄) := by
  unfold has
  iintro ⟨⟨%f, %hf, H1⟩, ⟨%g, %hg, H2⟩⟩
  iexists f
  isplitr; · ipureintro; exact hf
  iapply (pointsTo_share (PosShare.mem_left_op_right q)).2
  isplitl [H1]; · iexact H1
  have e : (v.loc c ↦[v.set]{q.right} f : sProp 𝕄) = v.loc c ↦[v.set]{q.right} g := pointsTo_congr (eq_on_of_read v (hf.trans hg.symm))
  rw [e]
  iexact H2

/-- A view re-read at another shape holds the same elements, its reading re-indexed. -/
theorem has_reshape (c : Thread nD τ) {sp : Space} {s s' : Shape} {e : EltTy} (v : View sig c.2.kind sp s e) (h : s'.numel = s.numel)
    (q : PosShare TreeShare) (X : s.Idx → Val e) :
    (has c v q X : sProp 𝕄) ⊢ has c (v.reshape s' h) q (fun j => X (Shape.reshapeEquiv h j)) := by
  unfold has
  iintro ⟨%f, %hf, H⟩
  iexists f
  isplitr; · ipureintro; rw [← hf]; rfl
  rw [View.set_reshape]; iexact H

/-- The same read backwards. -/
theorem has_of_reshape (c : Thread nD τ) {sp : Space} {s s' : Shape} {e : EltTy} (v : View sig c.2.kind sp s e) (h : s'.numel = s.numel)
    (q : PosShare TreeShare) (Y : s'.Idx → Val e) :
    (has c (v.reshape s' h) q Y : sProp 𝕄) ⊢ has c v q (fun i => Y ((Shape.reshapeEquiv h).symm i)) := by
  unfold has
  iintro ⟨%f, %hf, H⟩
  iexists f
  isplitr
  · ipureintro
    rw [← hf]
    funext i
    show _ = v.read Val f (Shape.reshapeEquiv h ((Shape.reshapeEquiv h).symm i))
    rw [Equiv.apply_symm_apply]
  rw [View.set_reshape]; iexact H

/-- A slot as accesses address it is held as the slot transfers address, re-indexed, -/
theorem slot_out (c : Thread nD τ) {sp : Space} {s s' : Shape} {e : EltTy} (M : Memref sig c.2.kind sp s e) (r : Rect s) (hr : ∀ a, r.stride a = 1)
    (hs : r.shape.Squeezes s') (q : PosShare TreeShare) (X : r.shape.Idx → Val e) :
    (has c (M.access r) q X : sProp 𝕄) ⊢ has c ((M.slice r hr).squeeze s' hs).view q (fun j => X (Shape.reshapeEquiv hs.numel_eq j)) :=
  has_reshape c (M.access r) hs.numel_eq q X

/-- back, -/
theorem slot_back (c : Thread nD τ) {sp : Space} {s s' : Shape} {e : EltTy} (M : Memref sig c.2.kind sp s e) (r : Rect s) (hr : ∀ a, r.stride a = 1)
    (hs : r.shape.Squeezes s') (q : PosShare TreeShare) (Y : s'.Idx → Val e) :
    (has c ((M.slice r hr).squeeze s' hs).view q Y : sProp 𝕄) ⊢ has c (M.access r) q (fun i => Y ((Shape.reshapeEquiv hs.numel_eq).symm i)) :=
  has_of_reshape c (M.access r) hs.numel_eq q Y

/-- and back at what it was. -/
theorem slot_in (c : Thread nD τ) {sp : Space} {s s' : Shape} {e : EltTy} (M : Memref sig c.2.kind sp s e) (r : Rect s) (hr : ∀ a, r.stride a = 1)
    (hs : r.shape.Squeezes s') (q : PosShare TreeShare) (X : r.shape.Idx → Val e) :
    (has c ((M.slice r hr).squeeze s' hs).view q (fun j => X (Shape.reshapeEquiv hs.numel_eq j)) : sProp 𝕄) ⊢ has c (M.access r) q X := by
  have h := has_of_reshape (Ix := Ix) (U := U) c (M.access r) hs.numel_eq q (fun j => X (Shape.reshapeEquiv hs.numel_eq j))
  have e : (fun i => (fun j => X (Shape.reshapeEquiv hs.numel_eq j)) ((Shape.reshapeEquiv hs.numel_eq).symm i)) = X := by
    funext i; show X (Shape.reshapeEquiv hs.numel_eq ((Shape.reshapeEquiv hs.numel_eq).symm i)) = X i; rw [Equiv.apply_symm_apply]
  rw [e] at h
  exact h

/-- An access to a whole buffer at its own sizes and zero offsets holds what the buffer does. -/
theorem has_unit_zero (c : Thread nD τ) (b : Ref sig c.2.kind) (q : PosShare TreeShare) {off : Fin b.ty.shape.rank → Nat}
    (h : off = fun _ => 0) (inb : ∀ a, off a + b.ty.shape.size a ≤ b.ty.shape.size a) (X : b.ty.Contents Val) :
    (has c ((Memref.whole b).access (Rect.unit off b.ty.shape.size inb)) q X : sProp 𝕄) = ((c.loc b) ↦{q} X) := by
  rw [← has_whole]
  unfold has
  have hs : ((Memref.whole b).access (Rect.unit off b.ty.shape.size inb) : View sig c.2.kind _ _ _).set = (View.whole b).set := by
    subst h; rw [View.set_whole]; exact Memref.set_access_whole b
  rw [hs]
  have hr (f : b.ty.Contents Val) : ((Memref.whole b).access (Rect.unit off b.ty.shape.size inb) : View sig c.2.kind _ _ _).read Val f = (View.whole b).read Val f := by
    rw [Memref.read_access_unit_zero Val b h inb f, View.read_whole]
  have h₁ : iprop(∃ f, ⌜((Memref.whole b).access (Rect.unit off b.ty.shape.size inb) : View sig c.2.kind _ _ _).read Val f = X⌝ ∗ ((View.whole b).loc c ↦[(View.whole b).set]{q} f))
      ⊢ (iprop(∃ f, ⌜(View.whole b).read Val f = X⌝ ∗ ((View.whole b).loc c ↦[(View.whole b).set]{q} f)) : sProp 𝕄) := by
    iintro ⟨%f, %hf, H⟩
    iexists f; isplitr; · ipureintro; rw [← hr]; exact hf
    iexact H
  have h₂ : (iprop(∃ f, ⌜(View.whole b).read Val f = X⌝ ∗ ((View.whole b).loc c ↦[(View.whole b).set]{q} f)) : sProp 𝕄)
      ⊢ iprop(∃ f, ⌜((Memref.whole b).access (Rect.unit off b.ty.shape.size inb) : View sig c.2.kind _ _ _).read Val f = X⌝ ∗ ((View.whole b).loc c ↦[(View.whole b).set]{q} f)) := by
    iintro ⟨%f, %hf, H⟩
    iexists f; isplitr; · ipureintro; rw [hr]; exact hf
    iexact H
  exact BI.equiv_iff.mp ⟨h₁, h₂⟩

section Steps

variable {Λ : Labels} {defs : Defs nD τ sig Val Λ} (𝒱 : Variants) (c : Thread nD τ) (bd : Option 𝒱.V)
variable {α : Type} {Q : α → sProp (MT nD τ sig Ix Val ℕ U ℕ)} {E : Set ℕ}

/-- A load through a rectangle of a memref: the program goes on at what the accessed view reads. -/
theorem wp_load_has {cs : CoreSpace} {s : Shape} {e : EltTy} {m : Memref sig c.2.kind cs s e} {r : Rect s} {hl : m.view.LoadsAt r}
    {k : (r.shape.Idx → Val e) → Prog (TpuEff nD τ sig Val Λ c.2) α} (q : PosShare TreeShare) (X : r.shape.Idx → Val e) :
    (has c (m.access r) q X : sProp 𝕄)
      ⊢ iprop((has c (m.access r) q X -∗ wp frame (wpE defs 𝒱 c bd) E (k X) Q)
        -∗ wp frame (wpE defs 𝒱 c bd) E (.op (.load m r hl) k) Q) := by
  iintro H Hk
  ihave H' := (show (has c (m.access r) q X : sProp 𝕄) ⊢ iprop(∃ f, ⌜(m.access r).read Val f = X⌝ ∗ ((m.access r).loc c ↦[(m.access r).set]{q} f)) from .rfl) $$ H
  icases H' with ⟨%f, %hf, H⟩
  iapply (wp_load_rect 𝒱 c bd E (Finset.Subset.refl _)) $$ H
  rw [hf]
  iintro H
  iapply Hk
  unfold has
  iexists f; isplitr; · ipureintro; exact hf
  iexact H

/-- An unmasked store through a rectangle of a memref: the accessed view then reads what was stored. -/
theorem wp_store_has {cs : CoreSpace} {s : Shape} {e : EltTy} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} (X : r.shape.Idx → Val e) :
    (has c (m.access r) fullShare X : sProp 𝕄)
      ⊢ iprop((has c (m.access r) fullShare w -∗ wp frame (wpE defs 𝒱 c bd) E (k ⟨⟩) Q)
        -∗ wp frame (wpE defs 𝒱 c bd) E (.op (.store m r w Finset.univ hx hm) k) Q) := by
  iintro H Hk
  ihave H' := (show (has c (m.access r) fullShare X : sProp 𝕄) ⊢ iprop(∃ f, ⌜(m.access r).read Val f = X⌝ ∗ ((m.access r).loc c ↦[(m.access r).set]{fullShare} f)) from .rfl) $$ H
  icases H' with ⟨%f, -, H⟩
  iapply (wp_store 𝒱 c bd E (S := (m.access r).set) (View.setOn_subset_set _ _)) $$ H
  iintro H
  iapply Hk
  unfold has
  iexists (m.access r).write Val f w Finset.univ; isplitr; · ipureintro; exact View.read_write_univ _ _
  iexact H

variable (EC : UEmb Counters (MT nD τ sig Ix Val ℕ U ℕ))

/-- A local transfer of `N` units on its way on the cell `sm`, handing `P` to whoever waits for it. -/
def inflight (sm : SemLoc sig) (ι : Ix) (N : ℕ) (P : sProp 𝕄) : sProp 𝕄 :=
  iprop(∃ D : sProp 𝕄, Flight EC c sm ι N D ∗ (D -∗ P))

/-- The wait for a local transfer on its way, by a core that may owe: what it hands over, and the cell's counter at zero. -/
theorem wp_wait_inflight [EC.LandsIn (upEmb : UEmb _ 𝕄)] {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {P : sProp 𝕄}
    {O : CellTallies nD τ sig Ix} {W : Waits sig Ix} :
    iprop(inflight c EC (.dma sem) ι N P ∗ owes c O W ∗ MayWait c (.dma sem) ι O)
      ⊢ iprop((iprop(P ∗ semVal (c, .dma sem) 0 ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold inflight
  iintro ⟨⟨%D, HF, HD⟩, HO, HM⟩ Hk
  iapply (wp_waitLocalO EC 𝒱 c bd ι hN (D := D) (O := O) (W := W)) $$ [HF HO HM]
  · isplitl [HF]; · iexact HF
    isplitl [HO] <;> iassumption
  iintro ⟨H, Hv, HO⟩
  iapply Hk
  isplitl [HD H]; · iapply HD; iexact H
  isplitl [Hv] <;> iassumption

/-- A local transfer out of a slice of a buffer held whole at a share, into a view held in full: on its way, to hand back the
    buffer's share and the view at what the slice reads. -/
theorem wp_copy_whole [EC.LandsIn (upEmb : UEmb _ 𝕄)] (b : Ref sig c.2.kind) {sp' : Space} {r : Rect b.ty.shape}
    {hr : ∀ a, r.stride a = 1} {dst : Memref sig c.2.kind sp' r.shape b.ty.elt} {sm : SemLoc sig}
    {hsrc : ((Memref.whole b).slice r hr).view.WordExact} {hdst : dst.view.WordExact}
    {hsem : DmaTarget.Typed (nD := nD) b.space sm (.here dst)}
    {k : PUnit → Prog (TpuEff nD τ sig Val Λ c.2) α} (q : PosShare TreeShare) (V : b.ty.Contents Val) (Y : r.shape.Idx → Val b.ty.elt)
    (ι : Ix) (N : ℕ) (hN : dst.view.amount sm = N) (hN0 : 0 < N) :
    iprop(((c.loc b) ↦{q} V) ∗ has c dst.view fullShare Y ∗ semVal (c, sm) 0)
      ⊢ iprop((inflight c EC sm ι N iprop(((c.loc b) ↦{q} V) ∗ has c dst.view fullShare (fun j => V (r.emb j)))
            -∗ wp frame (wpE defs 𝒱 c bd) Set.univ (k ⟨⟩) Q)
          -∗ wp frame (wpE defs 𝒱 c bd) Set.univ
              (.op (.enqueueDma ((Memref.whole b).slice r hr) (.here dst) sm hsrc hdst hsem) k) Q) := by
  iintro ⟨Hb, Hd, Hv⟩ Hk
  ihave Hd' := (show (has c dst.view fullShare Y : sProp 𝕄) ⊢ iprop(∃ f, ⌜dst.view.read Val f = Y⌝ ∗ (dst.view.loc c ↦[dst.view.set]{fullShare} f)) from .rfl) $$ Hd
  icases Hd' with ⟨%f, -, Hd⟩
  ihave Hb' := (pointsTo_split_subset (ℓ := c.loc b) (I := ((Memref.whole b).slice r hr).view.set) (S := Finset.univ) (q := q) (f := V) (Finset.subset_univ _)).1 $$ Hb
  icases Hb' with ⟨Hs, Hrest⟩
  iapply (wp_dmaLocal EC 𝒱 c bd (src := (Memref.whole b).slice r hr) (via := .same) (q := q) (fs := V) (Sd := dst.view.set) (fd := f) ι N hN hN0 (Finset.Subset.refl _)) $$ [Hs Hd Hv]
  · isplitl [Hs]; · iexact Hs
    isplitl [Hd] <;> iassumption
  iintro HF
  iapply Hk
  unfold inflight
  iexists _
  isplitl [HF]; · iexact HF
  iintro ⟨Hd, Hs⟩
  isplitl [Hs Hrest]
  · iapply (pointsTo_split_subset (ℓ := c.loc b) (I := ((Memref.whole b).slice r hr).view.set) (S := Finset.univ) (q := q) (f := V) (Finset.subset_univ _)).2
    isplitl [Hs] <;> iassumption
  · unfold has
    iexists dst.view.write Val f (((Memref.whole b).slice r hr).view.read Val V) Finset.univ; isplitr
    · ipureintro; rw [View.read_write_univ]; rfl
    iexact Hd

end Steps

end Cert.KProof

end
-- ==== Proof.Slots.lean ====
/-
# Slots: a buffer of blocks, as its blocks

A buffer of `n` blocks of `a` by `b` held whole is each of its blocks held, and back.
-/
module

public import proofs.«01_k».proof.Proof.Rules

@[expose] public section

noncomputable section

namespace Cert.KProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Geometry

/-- Slot `k` lies inside the buffer. -/
theorem inb_slot {n a b : ℕ} (k : Fin n) : ∀ i, (![k.val, 0, 0] : Fin 3 → Nat) i + (⟨3, ![1, a, b]⟩ : Shape).size i ≤ (⟨3, ![n, a, b]⟩ : Shape).size i := by
  intro i
  have := k.isLt
  fin_cases i
  · show k.val + 1 ≤ n; omega
  · show 0 + a ≤ a; omega
  · show 0 + b ≤ b; omega

variable {n a b : ℕ}

/-- Block `k` of the buffer. -/
abbrev slR (k : Fin n) : Rect ⟨3, ![n, a, b]⟩ := Rect.unit (s := ⟨3, ![n, a, b]⟩) ![k.val, 0, 0] (⟨3, ![1, a, b]⟩ : Shape).size (inb_slot k)

/-- An index of the buffer as an index of its block. -/
def within (i : (⟨3, ![n, a, b]⟩ : Shape).Idx) : (⟨3, ![1, a, b]⟩ : Shape).Idx := fun x => match x with
  | ⟨0, _⟩ => (⟨0, Nat.one_pos⟩ : Fin 1)
  | ⟨1, _⟩ => i 1
  | ⟨2, _⟩ => i 2

/-- The coordinates in the buffer of a point of slot `k`. -/
theorem slR_val (k : Fin n) (j : (slR (a := a) (b := b) k).shape.Idx) (x : Fin 3) :
    (((slR (a := a) (b := b) k).emb j) x).val = (![k.val, 0, 0] : Fin 3 → ℕ) x + 1 * (j x).val := rfl

/-- Its leading coordinate is `k`, -/
theorem slR_lead (k : Fin n) (j : (slR (a := a) (b := b) k).shape.Idx) : ((slR (a := a) (b := b) k).emb j) 0 = k := by
  apply Fin.ext
  rw [slR_val]
  have h : (j 0).val < 1 := (j 0).isLt
  show k.val + 1 * (j 0).val = k.val
  omega

/-- and the point within the slot is recovered from it. -/
theorem slR_within (k : Fin n) (j : (⟨3, ![1, a, b]⟩ : Shape).Idx) : within ((slR (a := a) (b := b) k).emb j) = j := by
  funext x
  fin_cases x
  · exact Fin.ext (Nat.lt_one_iff.mp (j 0).isLt).symm
  · apply Fin.ext; show (((slR (a := a) (b := b) k).emb j) 1).val = (j 1).val; rw [slR_val]; show 0 + 1 * (j 1).val = _; omega
  · apply Fin.ext; show (((slR (a := a) (b := b) k).emb j) 2).val = (j 2).val; rw [slR_val]; show 0 + 1 * (j 2).val = _; omega

/-- A point of the buffer lies in slot `k` exactly when its leading coordinate is `k`; -/
theorem slR_mem (k : Fin n) (i : (⟨3, ![n, a, b]⟩ : Shape).Idx) : i ∈ (slR (a := a) (b := b) k).set ↔ i 0 = k := by
  rw [Rect.mem_set_unit]
  constructor
  · intro h
    have h0 := h 0
    apply Fin.ext
    have h1 : k.val ≤ (i 0).val := h0.1
    have h2 : (i 0).val < k.val + 1 := h0.2
    omega
  · rintro rfl x
    fin_cases x
    · exact ⟨le_rfl, Nat.lt_succ_self _⟩
    · refine ⟨Nat.zero_le _, ?_⟩; show (i 1).val < 0 + a; rw [Nat.zero_add]; exact (i 1).isLt
    · refine ⟨Nat.zero_le _, ?_⟩; show (i 2).val < 0 + b; rw [Nat.zero_add]; exact (i 2).isLt

/-- so two slots are disjoint, -/
theorem slR_disj (k k' : Fin n) (h : k ≠ k') : Disjoint (slR (a := a) (b := b) k).set (slR (a := a) (b := b) k').set :=
  Finset.disjoint_left.mpr fun i hi hi' => h (((slR_mem k i).mp hi).symm.trans ((slR_mem k' i).mp hi'))
/-- and the slots cover the buffer. -/
theorem slR_cover : (Finset.univ : Finset (Fin n)).biUnion (fun k => (slR (a := a) (b := b) k).set) = Finset.univ :=
  Finset.eq_univ_of_forall fun i => Finset.mem_biUnion.mpr ⟨i 0, Finset.mem_univ _, (slR_mem (i 0) i).mpr rfl⟩

/-- The buffer's contents out of its blocks'. -/
def gather {V : Type} (Y : Fin n → (⟨3, ![1, a, b]⟩ : Shape).Idx → V) : (⟨3, ![n, a, b]⟩ : Shape).Idx → V :=
  fun i => Y (i 0 : Fin n) (within i)
/-- Contents gathered from the slots' are, on slot `k`, the contents of slot `k`. -/
theorem gather_emb {V : Type} (Y : Fin n → (⟨3, ![1, a, b]⟩ : Shape).Idx → V) (k : Fin n) (j : (⟨3, ![1, a, b]⟩ : Shape).Idx) :
    gather Y ((slR k).emb j) = Y k j := by
  show Y (((slR k).emb j) 0 : Fin n) (within ((slR k).emb j)) = Y k j
  rw [slR_within]
  exact congrFun (congrArg Y (slR_lead k j)) j

end Geometry

variable {nD : Nat} {τ : Topo} {sig : RefSig} {Val : EltTy → Type} {Ix : Type} [DecidableEq Ix] {U : Type} [URA U]

local notation "𝕄" => MT nD τ sig Ix Val ℕ U ℕ

variable (c : Thread nD τ) {sp : Space} {n a b : ℕ} {e : EltTy} (M : Memref sig c.2.kind sp ⟨3, ![n, a, b]⟩ e) (q : PosShare TreeShare)

/-- The buffer held whole is each block held at its part, -/
theorem has_blocks (X : (⟨3, ![n, a, b]⟩ : Shape).Idx → Val e) :
    (has c M.view q X : sProp 𝕄) ⊢ bigSep Finset.univ fun k : Fin n => has c (M.access (slR k)) q (fun j => X ((slR k).emb j)) :=
  owns_rects c M q slR (fun _ _ => rfl) slR_disj slR_cover X

/-- and the blocks held, whatever each holds, are the buffer held whole. -/
theorem has_of_blocks [∀ e, Nonempty (Val e)] (Y : Fin n → (⟨3, ![1, a, b]⟩ : Shape).Idx → Val e) :
    (bigSep Finset.univ fun k : Fin n => (has c (M.access (slR k)) q (Y k) : sProp 𝕄)) ⊢ has c M.view q (gather Y) := by
  have h := owns_of_rects (Ix := Ix) (Name := ℕ) (U := U) (Lvl := ℕ) c M q slR (fun _ _ => rfl) slR_disj slR_cover (gather Y)
  have he : (fun k : Fin n => (has c (M.access (slR k)) q (Y k) : sProp 𝕄))
      = fun k => owns c (M.slice (slR k) (fun _ => rfl)) q (fun j => gather Y ((slR k).emb j)) := by
    funext k
    show _ = has c (M.access (slR k)) q _
    congr 1
    funext j
    exact (gather_emb Y k j).symm
  rw [he]
  exact h

end Cert.KProof

end
-- ==== Proof.Contents.lean ====
/-
# Contents: the mesh, the buffers' slots, and what each of them holds

The kernel on device `c` (four devices in a ring) takes the K-columns `[1024 c, 1024 (c+1))` of `x` (its block, 4096 rows) and the
whole of `w`. It sends the row block of device `c + k + 1` to that device, for `k = 0, 1, 2`, keeps its own, multiplies each row
block it has with the matching rows of `w`, adds up, and exchanges the maximum of its rows for the common scale of the quantiser.
This module names the slots of the kernel's buffers and the value each one holds when it is handed on.
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.RA Idealize.SL.BI

/-! ## The mesh -/

/-- The device `k + 1` places further round the ring, -/
def fwd (k : Fin 3) (c : Dev nD) : Dev nD := ⟨(c.val + k.val + 1) % 4, Nat.mod_lt _ (by decide)⟩
/-- and the one `k + 1` places back. -/
def bwd (k : Fin 3) (c : Dev nD) : Dev nD := ⟨(c.val + (3 - k.val)) % 4, Nat.mod_lt _ (by decide)⟩

/-- Going forward by `k + 1` places and back again changes nothing, -/
theorem bwd_fwd (k : Fin 3) (c : Dev nD) : bwd k (fwd k c) = c := by revert k c; decide
/-- nor does going back first; -/
theorem fwd_bwd (k : Fin 3) (c : Dev nD) : fwd k (bwd k c) = c := by revert k c; decide
/-- forward by `k + 1` and then by `3 - k` places goes once around, -/
theorem fwd_rev (k : Fin 3) (c : Dev nD) : fwd k.rev (fwd k c) = c := by revert k c; decide
/-- and so does the other order. -/
theorem fwd_rev' (k : Fin 3) (c : Dev nD) : fwd k (fwd k.rev c) = c := by revert k c; decide

/-- The shift by `k + 1` places as a permutation of the devices. -/
def shift (k : Fin 3) : Dev nD ≃ Dev nD := ⟨fwd k, bwd k, bwd_fwd k, fwd_bwd k⟩

/-- The device each of the nine sends names. The three signals: one place on, -/
theorem dev1_eq (c : Dev nD) : (⟨k0_dev1 c, k0_dev1_lt c⟩ : Dev nD) = fwd 0 c := Fin.ext (k0_dev1_eq c)
/-- two places on, -/
theorem dev2_eq (c : Dev nD) : (⟨k0_dev2 c, k0_dev2_lt c⟩ : Dev nD) = fwd 1 c := Fin.ext (k0_dev2_eq c)
/-- three places on. -/
theorem dev3_eq (c : Dev nD) : (⟨k0_dev3 c, k0_dev3_lt c⟩ : Dev nD) = fwd 2 c := Fin.ext (k0_dev3_eq c)
/-- The three row blocks: one place on, -/
theorem dev4_eq (c : Dev nD) : (⟨k0_dev4 c, k0_dev4_lt c⟩ : Dev nD) = fwd 0 c := Fin.ext (k0_dev4_eq c)
/-- two places on, -/
theorem dev5_eq (c : Dev nD) : (⟨k0_dev5 c, k0_dev5_lt c⟩ : Dev nD) = fwd 1 c := Fin.ext (k0_dev5_eq c)
/-- three places on. -/
theorem dev6_eq (c : Dev nD) : (⟨k0_dev6 c, k0_dev6_lt c⟩ : Dev nD) = fwd 2 c := Fin.ext (k0_dev6_eq c)
/-- The three maxima: one place on, -/
theorem dev7_eq (c : Dev nD) : (⟨k0_dev7 c, k0_dev7_lt c⟩ : Dev nD) = fwd 0 c := Fin.ext (k0_dev7_eq c)
/-- two places on, -/
theorem dev8_eq (c : Dev nD) : (⟨k0_dev8 c, k0_dev8_lt c⟩ : Dev nD) = fwd 1 c := Fin.ext (k0_dev8_eq c)
/-- three places on. -/
theorem dev9_eq (c : Dev nD) : (⟨k0_dev9 c, k0_dev9_lt c⟩ : Dev nD) = fwd 2 c := Fin.ext (k0_dev9_eq c)

/-! ## The buffers and their slots -/

abbrev xbM : Memref sig .tc .vmem S2x1024x1024 .f32 := Memref.whole cc0_scratch0
abbrev stM : Memref sig .tc .vmem S4x1024x1024 .bf16 := Memref.whole cc0_scratch1
abbrev cmM : Memref sig .tc .vmem S3x1024x1024 .bf16 := Memref.whole cc0_scratch2
abbrev wfM : Memref sig .tc .vmem S1024x2048 .f32 := Memref.whole cc0_scratch3
abbrev wbM : Memref sig .tc .vmem S3x1024x2048 .bf16 := Memref.whole cc0_scratch4
abbrev amM : Memref sig .tc .vmem S4x8x128 .f32 := Memref.whole cc0_scratch5

abbrev xbR (k : Fin 2) : Rect S2x1024x1024 := Rect.unit (s := S2x1024x1024) ![k.val, 0, 0] S1x1024x1024.size (inb_slot k)
abbrev stR (k : Fin 4) : Rect S4x1024x1024 := Rect.unit (s := S4x1024x1024) ![k.val, 0, 0] S1x1024x1024.size (inb_slot k)
abbrev cmR (k : Fin 3) : Rect S3x1024x1024 := Rect.unit (s := S3x1024x1024) ![k.val, 0, 0] S1x1024x1024.size (inb_slot k)
abbrev wbR (k : Fin 3) : Rect S3x1024x2048 := Rect.unit (s := S3x1024x2048) ![k.val, 0, 0] S1x1024x2048.size (inb_slot k)
abbrev amR (k : Fin 4) : Rect S4x8x128 := Rect.unit (s := S4x8x128) ![k.val, 0, 0] S1x8x128.size (inb_slot k)

/-- Slot `k` of each buffer, as the kernel's loads and stores address it. -/
abbrev xbA (k : Fin 2) : View sig .tc .vmem (xbR k).shape .f32 := xbM.access (xbR k)
abbrev stA (k : Fin 4) : View sig .tc .vmem (stR k).shape .bf16 := stM.access (stR k)
abbrev cmA (k : Fin 3) : View sig .tc .vmem (cmR k).shape .bf16 := cmM.access (cmR k)
abbrev wbA (k : Fin 3) : View sig .tc .vmem (wbR k).shape .bf16 := wbM.access (wbR k)
abbrev amA (k : Fin 4) : View sig .tc .vmem (amR k).shape .f32 := amM.access (amR k)

/-! ## What the slots hold -/

variable {F : FTy → Type} [FloatOps F]
variable (m : (ℓ : Loc nD τ sig) → Buf (Elt F) ℓ)

/-- Device `c`'s two arguments at launch. -/
abbrev A0 (c : Dev nD) : (main_arg0 : Ref sig .tc).ty.Contents (Elt F) := m ((c : Thread nD τ).loc main_arg0)
abbrev A1 (c : Dev nD) : (main_arg1 : Ref sig .tc).ty.Contents (Elt F) := m ((c : Thread nD τ).loc main_arg1)

/-- The row block of device `c + k + 1` of device `c`'s columns of `x`; -/
def xPart (k : Fin 3) (c : Dev nD) : S1024x1024.Idx → Elt F .f32 :=
  fun j => A0 m c ((Rect.unit (s := S4096x1024) (k0_off2 c (BitVec.ofNat 32 (1 + k.val))) S1024x1024.size (k0_off2_inb c k)).emb j)
/-- its own row block of them; -/
def xOwn (c : Dev nD) : S1024x1024.Idx → Elt F .f32 :=
  fun j => A0 m c ((Rect.unit (s := S4096x1024) (k0_off3 c) S1024x1024.size (k0_off3_inb c)).emb j)
/-- the rows of `w` that go with its own columns of `x`; -/
def wOwn (c : Dev nD) : S1024x2048.Idx → Elt F .f32 :=
  fun j => A1 m c ((Rect.unit (s := S4096x2048) (k0_off1 c) S1024x2048.size (k0_off1_inb c)).emb j)
/-- and those that go with the columns of device `c + k + 1`. -/
def wPart (k : Fin 3) (c : Dev nD) : S1024x2048.Idx → Elt F .f32 :=
  fun j => A1 m c ((Rect.unit (s := S4096x2048) (k0_off4 c (BitVec.ofNat 32 (1 + k.val))) S1024x2048.size (k0_off4_inb c k)).emb j)

/-- A 1024x1024 block as the slot of a buffer of such blocks. -/
def slotOf {e : EltTy} (X : S1024x1024.Idx → Elt F e) : S1x1024x1024.Idx → Elt F e :=
  fun i => X ((Shape.reshapeEquiv (Shape.Squeezes.numel_eq squeezes_S1x1024x1024_S1024x1024)).symm i)

/-- What device `c` sends to device `c + k + 1`: that device's row block of its columns of `x`, narrowed. -/
def sent (k : Fin 3) (c : Dev nD) : S1x1024x1024.Idx → Elt F .bf16 := match k with
  | 0 => k0_pay1 (slotOf (xPart m 0 c))
  | 1 => k0_pay2 (slotOf (xPart m 1 c))
  | 2 => k0_pay4 (k0_pay3 (slotOf (xPart m 2 c)))
/-- What it keeps: its own row block, narrowed. -/
def kept (c : Dev nD) : S1x1024x1024.Idx → Elt F .bf16 := k0_pay5 (slotOf (xOwn m c))

/-- The rows of `w`, narrowed: its own, and those of the devices one, two and three places back. -/
def wb0 (c : Dev nD) : S1x1024x2048.Idx → Elt F .bf16 := k0_pay7 (k0_pay6 (wOwn m c))
def wb1 (c : Dev nD) : S1x1024x2048.Idx → Elt F .bf16 := k0_pay9 (wPart m 2 c)
def wb2 (c : Dev nD) : S1x1024x2048.Idx → Elt F .bf16 := k0_pay10 (wPart m 1 c)
def wb3 (c : Dev nD) : S1x1024x2048.Idx → Elt F .bf16 := k0_pay11 (wPart m 0 c)

/-- The running sums of the products, over its own columns and then over those of the devices one, two and three places back. -/
def acc0 (c : Dev nD) : S1024x2048.Idx → Elt F .bf16 := k0_pay8 (kept m c) (wb0 m c)
def acc1 (c : Dev nD) : S1024x2048.Idx → Elt F .bf16 := k0_pay12 (sent m 0 (bwd 0 c)) (wb1 m c) (acc0 m c)
def acc2 (c : Dev nD) : S1024x2048.Idx → Elt F .bf16 := k0_pay13 (sent m 1 (bwd 1 c)) (wb2 m c) (acc1 m c)
def acc3 (c : Dev nD) : S1024x2048.Idx → Elt F .bf16 := k0_pay14 (sent m 2 (bwd 2 c)) (wb3 m c) (acc2 m c)

/-- The maximum of device `c`'s rows, as the slot it sends round. -/
def amx (c : Dev nD) : S1x8x128.Idx → Elt F .f32 := k0_pay15 (acc3 m c)

/-- The device whose maximum lies in slot `k` of device `c`'s buffer of maxima. -/
def src (k : Fin 4) (c : Dev nD) : Dev nD := match k with
  | 0 => bwd 0 c
  | 1 => bwd 1 c
  | 2 => bwd 2 c
  | 3 => c

/-- The buffer of maxima with all four in place. -/
def amAll (c : Dev nD) : S4x8x128.Idx → Elt F .f32 :=
  gather fun k : Fin 4 => amx m (src k c)

/-- Device `c`'s result. -/
def outAt (c : Dev nD) : S1024x2048.Idx → Elt F .bf16 := k0_pay16 (amAll m c) (acc3 m c)

end Cert.KProof

end
-- ==== Proof.Protocol.lean ====
/-
# Protocol: the cells, who raises them, and what each hand-over carries

Every device runs the same body. Its semaphores, and their one round each:
* the barrier semaphore, waited for once for three units, one from each other device. The unit from the device `j + 1` places
  further hands over that device's landing slot `j` for the row block and landing slot `j` for the maximum, whatever they hold;
* three receive semaphores: number `k` is raised by the row block that the device `k + 1` places back sends, and hands over
  landing slot `k` holding it; three send semaphores, handing back the slot sent from;
* three more receive semaphores for the maxima, handing over landing slot `k` of the maxima; three send semaphores, each handing
  back a read share of the slot all three sends read.
The waits of one device are in the order barrier, row blocks, maxima, so the levels are 1, 2, 3 (and 0 for all else).
-/
module

public import proofs.«01_k».proof.Proof.Contents

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The algebra: the staging pipeline's rounds, the ring's rounds, the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB (MT nD τ sig Unit (Elt F) ℕ UU ℕ)).LandsIn (upEmb : UEmb _ (MT nD τ sig Unit (Elt F) ℕ UU ℕ)) := by
  unfold ER; infer_instance
abbrev EC : UEmb Counters (MT nD τ sig Unit (Elt F) ℕ UU ℕ) := countersEmb

variable (m : (ℓ : Loc nD τ sig) → Buf (Elt F) ℓ)

/-! ## The cells -/

abbrev barS : Sem sig := (SemArray.scalar (sig.barrier 0 rfl) : Sems sig S_).sem

/-- A cell of the ring: the barrier (`none`), or number `k` of the row blocks' send (0) or receive (1) semaphores or of the
    maxima's send (2) or receive (3) semaphores. -/
abbrev Cl : Type := Option (Fin 4 × Fin 3)

/-- Their places among the device's semaphores. -/
def no (t : Fin 4) (k : Fin 3) : DmaSem sig := ⟨(if t.val < 2 then 3 else 4) + 3 * t.val + k.val, by revert t k; decide⟩
def csem : Cl → SemLoc sig := fun | none => .reg barS | some (t, k) => .dma (no t k)
abbrev kcell (cx : Dev nD × Cl) : GSem nD τ sig := ((cx.1 : Thread nD τ), csem cx.2)
abbrev cell (c : Dev nD) (t : Fin 4) (k : Fin 3) : GSem nD τ sig := ((c : Thread nD τ), .dma (no t k))
abbrev barCell (c : Dev nD) : GSem nD τ sig := ((c : Thread nD τ), .reg barS)

/-- Different cells of a device have different semaphores, -/
theorem csem_injective : Function.Injective csem := by decide
/-- and different devices different cells. -/
theorem kcell_injective : Function.Injective (kcell : Dev nD × Cl → GSem nD τ sig) := by
  rintro ⟨c, x⟩ ⟨c', x'⟩ h
  have h1 : c = c' := by have := congrArg (fun g : GSem nD τ sig => g.1.1) h; exact this
  have h2 : x = x' := csem_injective (congrArg Prod.snd h)
  rw [h1, h2]

/-- Which cell of the ring a semaphore is. -/
def cls : SemLoc sig → Option Cl := Function.partialInv csem
/-- The cell of a semaphore is found again, -/
theorem cls_csem (x : Cl) : cls (csem x) = some x := Function.partialInv_left csem_injective x
/-- and the semaphore of a cell. -/
theorem csem_of_cls {sm : SemLoc sig} {x : Cl} (h : cls sm = some x) : csem x = sm := (Function.partialInv_of_injective csem_injective x sm).1 h

/-- The credit of a row block's transfer and of a maximum's. -/
def NX : ℕ := (((cmM.slice (cmR 0) (fun _ => rfl)).squeeze S1024x1024 squeezes_S1x1024x1024_S1024x1024)).view.dmaCredit
def NA : ℕ := (((amM.slice (amR 0) (fun _ => rfl)).squeeze S8x128 squeezes_S1x8x128_S8x128)).view.dmaCredit
/-- Both credits are positive: a row block's -/
theorem NX_pos : 0 < NX := View.dmaCredit_pos _ (by decide)
/-- and a maximum's. -/
theorem NA_pos : 0 < NA := View.dmaCredit_pos _ (by decide)

/-! ## The hand-overs -/

/-- The read share of its own maximum's slot that send `k` of the maxima lends out, -/
def lent (k : Fin 3) : PosShare TreeShare := match k with
  | 0 => fullShare.left
  | 1 => fullShare.right.left
  | 2 => fullShare.right.right.left
/-- and the one the device keeps. -/
abbrev keptShare : PosShare TreeShare := fullShare.right.right.right

def barPay (c : Dev nD) (j : Fin 3) : sProp 𝕄 :=
  iprop((∃ Y, has (fwd j c : Thread nD τ) (cmA j) fullShare Y) ∗ (∃ Y, has (fwd j c : Thread nD τ) (amA j.castSucc) fullShare Y))
def sendPay (c : Dev nD) (k : Fin 3) : sProp 𝕄 := has (c : Thread nD τ) (stA k.castSucc) fullShare (sent m k c)
def recvPay (c : Dev nD) (k : Fin 3) : sProp 𝕄 := has (c : Thread nD τ) (cmA k) fullShare (sent m k (bwd k c))
def asendPay (c : Dev nD) (k : Fin 3) : sProp 𝕄 := has (c : Thread nD τ) (amA 3) (lent k) (amx m c)
def arecvPay (c : Dev nD) (k : Fin 3) : sProp 𝕄 := has (c : Thread nD τ) (amA k.castSucc) fullShare (amx m (bwd k c))

def payOf (c : Dev nD) : Cl → Fin 3 → sProp 𝕄
  | none, d => barPay c d
  | some (0, k), _ => sendPay m c k
  | some (1, k), _ => recvPay m c k
  | some (2, k), _ => asendPay m c k
  | some (3, k), _ => arecvPay m c k
def dutOf : Cl → Finset (Fin 3)
  | none => Finset.univ
  | some _ => {0}
def amtOf : Cl → ℕ
  | none => 1
  | some (t, _) => if t.val < 2 then NX else NA

/-- Every arrival at a cell counts for something. -/
theorem amtOf_pos (x : Cl) : 0 < amtOf x := by
  rcases x with _ | ⟨t, k⟩
  · exact Nat.one_pos
  · unfold amtOf; dsimp only; split
    · exact NX_pos
    · exact NA_pos

instance payOf_storable (c : Dev nD) (x : Cl) (d : Fin 3) : BI.Storable (upEmb : UEmb _ 𝕄) (payOf m c x d) := by
  rcases x with _ | ⟨t, k⟩
  · unfold payOf barPay; infer_instance
  · fin_cases t <;> (unfold payOf sendPay recvPay asendPay arecvPay; dsimp only; infer_instance)

/-- One round, round 0, on each cell of the ring. -/
def ringRd : Rounds.Schedule (GSem nD τ sig) (Fin 3) 𝕄 where
  duties g r := if r = 0 ∧ g.1.2 = .tc then ((cls g.2).map dutOf).getD ∅ else ∅
  unitless _ := False
  amount g _ _ := ((cls g.2).map amtOf).getD 1
  payload g _ d := ((cls g.2).map fun x => payOf m g.1.1 x d).getD iprop(emp)
  amount_pos g _ _ _ := by
    cases cls g.2 with
    | none => exact Nat.one_pos
    | some x => exact amtOf_pos x

instance ringRd_payload_storable (g : GSem nD τ sig) (r : ℕ) (d : Fin 3) : BI.Storable (upEmb : UEmb _ 𝕄) ((ringRd m).payload g r d) := by
  show BI.Storable upEmb (((cls g.2).map fun x => payOf m g.1.1 x d).getD iprop(emp))
  cases cls g.2 with
  | none => show BI.Storable upEmb iprop(emp); infer_instance
  | some x => show BI.Storable upEmb (payOf m g.1.1 x d); infer_instance

section Sched
variable (c : Dev nD) (x : Cl) (t : Fin 4) (k : Fin 3)

/-- The schedule read at a cell: who arrives, -/
theorem duties_at : (ringRd m).duties (kcell (c, x)) 0 = dutOf x := by
  dsimp only [ringRd]; rw [if_pos ⟨rfl, rfl⟩, cls_csem]; rfl
/-- nobody after the first round; -/
theorem duties_later (g : GSem nD τ sig) : ∀ r, 0 + 1 ≤ r → (ringRd m).duties g r = ∅ :=
  fun r hr => by dsimp only [ringRd]; rw [if_neg fun h => by omega]
/-- with how much, -/
theorem amount_at (d : Fin 3) : (ringRd m).amount (kcell (c, x)) 0 d = amtOf x := by
  dsimp only [ringRd]; rw [cls_csem]; rfl
/-- and handing over what. -/
theorem payload_at (d : Fin 3) : (ringRd m).payload (kcell (c, x)) 0 d = payOf m c x d := by
  dsimp only [ringRd]; rw [cls_csem]; rfl

/-- Each of the three peers arrives at a barrier, -/
theorem mem_bar (d : Fin 3) : d ∈ (ringRd m).duties (barCell c) 0 := by
  rw [show barCell c = kcell (c, none) from rfl, duties_at]; exact Finset.mem_univ d
/-- and one transfer at any other cell; -/
theorem mem_cell : (0 : Fin 3) ∈ (ringRd m).duties (cell c t k) 0 := by
  rw [show cell c t k = kcell (c, some (t, k)) from rfl, duties_at]; exact Finset.mem_singleton_self _
/-- a signal counts for one, -/
theorem amount_bar (d : Fin 3) : (ringRd m).amount (barCell c) 0 d = 1 := amount_at m c none d
/-- a transfer for its credit; -/
theorem amount_cell (d : Fin 3) : (ringRd m).amount (cell c t k) 0 d = amtOf (some (t, k)) := amount_at m c (some (t, k)) d
/-- a signal hands over the slots the receiver will fill, -/
theorem payload_bar (d : Fin 3) : (ringRd m).payload (barCell c) 0 d = barPay c d := payload_at m c none d
/-- a transfer what it has moved. -/
theorem payload_cell (d : Fin 3) : (ringRd m).payload (cell c t k) 0 d = payOf m c (some (t, k)) d := payload_at m c (some (t, k)) d

/-- A barrier waits for three signals, -/
theorem expect_bar : (ringRd m).expect (barCell c) 0 = 3 := by
  unfold Schedule.expect Schedule.amountOf
  rw [show barCell c = kcell (c, none) from rfl, duties_at, Finset.sum_congr rfl fun d _ => amount_at m c none d]; rfl
/-- another cell for one transfer's credit. -/
theorem expect_cell : (ringRd m).expect (cell c t k) 0 = amtOf (some (t, k)) := by
  unfold Schedule.expect Schedule.amountOf
  rw [show cell c t k = kcell (c, some (t, k)) from rfl, duties_at, Finset.sum_congr rfl fun d _ => amount_at m c _ d]
  exact Finset.sum_singleton _ _

/-- The whole round of the barrier cell: the landing slots on the three other devices. -/
theorem rest_bar : bigSep ((ringRd m).duties (barCell c) 0 \ ∅) (fun d => (ringRd m).payload (barCell c) 0 d)
    = iprop(barPay c 0 ∗ barPay c 1 ∗ barPay c 2) := by
  rw [Finset.sdiff_empty, show barCell c = kcell (c, none) from rfl, duties_at,
    bigSep_congr (fun d _ => payload_at m c none d), show dutOf none = Finset.univ from rfl,
    bigSep_univ_eq_bigSepL [0, 1, 2] (by decide) (by decide)]
  rfl
/-- The whole round of any other cell: its one hand-over. -/
theorem rest_cell : bigSep ((ringRd m).duties (cell c t k) 0 \ ∅) (fun d => (ringRd m).payload (cell c t k) 0 d) = payOf m c (some (t, k)) 0 := by
  rw [Finset.sdiff_empty, show cell c t k = kcell (c, some (t, k)) from rfl, duties_at, show dutOf (some (t, k)) = {0} from rfl, bigSep_singleton, payload_at]

end Sched

/-! ## What each device owes at launch; the levels -/

/-- What device `c` owes, the last first: the three maxima, the three row blocks, the three barrier units. -/
def owedCl (i : ℕ) : Fin 3 × Cl := match i with
  | 0 => (2, some (3, 2)) | 1 => (1, some (3, 1)) | 2 => (0, some (3, 0))
  | 3 => (2, some (1, 2)) | 4 => (1, some (1, 1)) | 5 => (0, some (1, 0))
  | 6 => (2, none) | 7 => (1, none) | _ => (0, none)
def owedCell (c : Dev nD) (i : ℕ) : GSem nD τ sig := kcell (fwd (owedCl i).1 c, (owedCl i).2)
/-- The first `n` of them. -/
def Ow (c : Dev nD) : ℕ → CellTallies nD τ sig Unit
  | 0 => 0
  | n + 1 => Ow c n + tallyAt (owedCell c n) () (amtOf (owedCl n).2)

/-- Where a device owes anything, it owes it to one of the listed cells. -/
theorem Ow_pos {c : Dev nD} {g : GSem nD τ sig} {u : Unit} {n : ℕ} (h : 0 < Ow c n g u) : ∃ i < n, g = owedCell c i := by
  induction n with
  | zero => exact absurd h (Nat.lt_irrefl 0)
  | succ n ih =>
    rw [Ow, Pi.add_apply, Finsupp.add_apply, tallyAt_apply] at h
    by_cases hg : g = owedCell c n
    · exact ⟨n, Nat.lt_succ_self n, hg⟩
    · rw [if_neg (fun h' => hg h'.1), Nat.add_zero] at h
      obtain ⟨i, hi, e⟩ := ih h
      exact ⟨i, Nat.lt_succ_of_lt hi, e⟩

def L (g : GSem nD τ sig) : Finset Unit := if g.1.2 = .tc then {()} else ∅
def lvCl : Cl → ℕ
  | none => 1
  | some (t, _) => if t.val = 1 then 2 else if t.val = 3 then 3 else 0
def lv (g : GSem nD τ sig) (_ : Unit) : ℕ := ((cls g.2).map lvCl).getD 0

/-- Only the tensor cores' cells have levels, -/
theorem L_of_ne (g : GSem nD τ sig) (h : g.1.2 ≠ .tc) : L g = ∅ := if_neg h
/-- each of them one, -/
theorem L_tc (c : Dev nD) (sm : SemLoc sig) : L ((c : Thread nD τ), sm) = {()} := if_pos rfl
/-- the one of its kind. -/
theorem lv_at (cx : Dev nD × Cl) (u : Unit) : lv (kcell cx) u = lvCl cx.2 := by unfold lv; rw [cls_csem]; rfl

/-- A device may wait on a cell lying below all it still owes. -/
theorem mayWait_of (c : Dev nD) (sm : SemLoc sig) (n l : ℕ) (hl : lv ((c : Thread nD τ), sm) () ≤ l) (hn : ∀ i < n, l < lvCl (owedCl i).2) :
    (levAts L lv : sProp 𝕄) ⊢ MayWait (c : Thread nD τ) sm () (Ow c n) :=
  MayOwe.of_cut (L := L) (lev := lv) l (fun p hp => by rw [Finset.mem_singleton.mp hp, L_tc]; exact Finset.mem_singleton_self _)
    (fun g u hg => by obtain ⟨i, -, rfl⟩ := Ow_pos hg; exact (L_tc _ _).symm ▸ Finset.mem_singleton_self _)
    (fun p hp => by rw [Finset.mem_singleton.mp hp]; exact hl)
    (fun g u hg => by obtain ⟨i, hi, rfl⟩ := Ow_pos hg; rw [owedCell, lv_at]; exact hn i hi)

/-- A semaphore outside the protocol lies at the bottom. -/
theorem lv_plain (c : Dev nD) (q : DmaSem sig) (h : ∀ x, csem x ≠ .dma q) : lv ((c : Thread nD τ), .dma q) () = 0 := by
  unfold lv
  cases e : cls (SemLoc.dma q) with
  | none => rfl
  | some x => exact absurd (csem_of_cls e) (h x)

/-- On a semaphore outside the ring a device may wait whatever it owes; -/
theorem mayWait_plain (c : Dev nD) (q : DmaSem sig) (h : ∀ x, csem x ≠ .dma q) {n : ℕ} (hn : n ≤ 9) :
    (levAts L lv : sProp 𝕄) ⊢ MayWait (c : Thread nD τ) (.dma q) () (Ow c n) :=
  mayWait_of c _ n 0 (lv_plain c q h).le fun i hi => (by decide : ∀ j : Fin 9, 0 < lvCl (owedCl j.val).2) ⟨i, by omega⟩
/-- on the barrier when it owes row blocks and maxima only; -/
theorem mayWait_bar (c : Dev nD) : (levAts L lv : sProp 𝕄) ⊢ MayWait (c : Thread nD τ) (.reg barS) () (Ow c 6) :=
  mayWait_of c _ 6 1 (lv_at (c, none) ()).le fun i hi => (by decide : ∀ j : Fin 6, 1 < lvCl (owedCl j.val).2) ⟨i, hi⟩
/-- on a row block when it owes maxima only. -/
theorem mayWait_recv (c : Dev nD) (k : Fin 3) : (levAts L lv : sProp 𝕄) ⊢ MayWait (c : Thread nD τ) (.dma (no 1 k)) () (Ow c 3) :=
  mayWait_of c _ 3 2 (lv_at (c, some (1, k)) ()).le fun i hi => (by decide : ∀ j : Fin 3, 2 < lvCl (owedCl j.val).2) ⟨i, hi⟩

end Cert.KProof

end
-- ==== Proof.Steps.lean ====
/-
# Steps: one rule for each kind of step the body takes

The body's signals, waits and transfers at the protocol's cells, each with the slots it takes and the slots it gives back.
`owing c n` says that device `c` still owes the first `n` of its debts; `records` holds what is known of every cell for good.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- The program `p` run on device `c`'s core to the end `Q`. -/
abbrev WP (c : Dev nD) {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- What is known of every cell of the ring: its invariant, and that its round 0 is reached. -/
def records (K : Dev nD × Cl → ℕ) : sProp 𝕄 :=
  iprop((bigSep Finset.univ fun cx : Dev nD × Cl => cellInv ER (ringRd m) (K cx) (kcell cx))
    ∗ bigSep Finset.univ fun cx : Dev nD × Cl => reached ER (kcell cx) 0)

instance records_persistent (K : Dev nD × Cl → ℕ) : BI.Persistent (records m K) := by unfold records; infer_instance

/-- The records hold every cell's invariant, -/
theorem records_inv (K : Dev nD × Cl → ℕ) (c : Dev nD) (x : Cl) : (records m K : sProp 𝕄) ⊢ cellInv ER (ringRd m) (K (c, x)) (kcell (c, x)) := by
  unfold records
  exact sep_elim_left.trans (bigSep_elim (Φ := fun cx : Dev nD × Cl => (cellInv ER (ringRd m) (K cx) (kcell cx) : sProp 𝕄)) (Finset.mem_univ (c, x)))
/-- and that its first round is reached. -/
theorem records_reached (K : Dev nD × Cl → ℕ) (c : Dev nD) (x : Cl) : (records m K : sProp 𝕄) ⊢ reached ER (kcell (c, x)) 0 := by
  unfold records
  exact sep_elim_right.trans (bigSep_elim (Φ := fun cx : Dev nD × Cl => (reached ER (kcell cx) 0 : sProp 𝕄)) (Finset.mem_univ (c, x)))

/-- Device `c` owes the first `n` of its debts. -/
abbrev owing (c : Dev nD) (n : ℕ) : sProp 𝕄 := iprop(∃ W, owes (c : Thread nD τ) (Ow c n) W)

/-- What is owed before a send is what is owed after it and the send's own credit. -/
theorem Ow_succ (c : Dev nD) {n : ℕ} {k : Fin 3} {x : Cl} (h : owedCl n = (k, x)) :
    Ow c (n + 1) = Ow c n + tallyAt (kcell (fwd k c, x)) () (amtOf x) := by
  show Ow c n + tallyAt (kcell (fwd (owedCl n).1 c, (owedCl n).2)) () (amtOf (owedCl n).2) = _
  rw [h]

/-- Elements that read `X` through a view are held as such. -/
theorem has_of_read (c : Thread nD τ) {sp : Space} {s : Shape} {e : EltTy} (v : View sig c.2.kind sp s e) (q : PosShare TreeShare)
    (X : s.Idx → Elt F e) (f : v.ty.Contents (Elt F)) (h : v.read (Elt F) f = X) : (v.loc c ↦[v.set]{q} f : sProp 𝕄) ⊢ has c v q X := by
  unfold has
  iintro H
  iexists f; isplitr; · ipureintro; exact h
  iexact H
/-- And back. -/
theorem read_of_has (c : Thread nD τ) {sp : Space} {s : Shape} {e : EltTy} (v : View sig c.2.kind sp s e) (q : PosShare TreeShare)
    (X : s.Idx → Elt F e) : (has c v q X : sProp 𝕄) ⊢ iprop(∃ f, ⌜v.read (Elt F) f = X⌝ ∗ (v.loc c ↦[v.set]{q} f)) := .rfl

section Rules

variable (K : Dev nD × Cl → ℕ) (c : Dev nD) {α : Type} {Q : α → sProp (MT nD τ sig Unit (Elt F) ℕ UU ℕ)}

/-- A unit for the barrier of the device `k + 1` places further, with the landing slots it will send into. -/
theorem step_signal (k : Fin 3) (n' : Dev nD) (hn' : n' = fwd k c) (sem : Sem sig) (hs : sem = barS) (a : ℕ) (ha : 1 = a) (n : ℕ) (hn : owedCl n = (k, none))
    {kk : PUnit → Prog (TpuEff nD τ sig (Elt F) Λ₀ .tc) α} :
    iprop(records m K ∗ owing c (n + 1) ∗ dutyTok ER (barCell (fwd k c)) 0 k.rev
        ∗ (∃ Y, has (c : Thread nD τ) (cmA k.rev) fullShare Y) ∗ (∃ Y, has (c : Thread nD τ) (amA k.rev.castSucc) fullShare Y))
      ⊢ iprop((owing c n -∗ WP c (kk ⟨⟩) Q) -∗ WP c (.op (.semSignal (Dev.tc n' : Thread nD τ) sem a) kk) Q) := by
  subst hn' hs ha
  iintro ⟨#HR, ⟨%W, HO⟩, Ht, Hc, Ha⟩ Hk
  iapply (Rounds.wp_signal 𝒱₀ ER (ringRd m) (c : Thread nD τ) none (dst := (fwd k c : Thread nD τ)) (κ := K (fwd k c, none))
      (d := k.rev) (mem_bar m _ _) (amount_bar m _ _) () (Ow c n) (Ow_succ c hn) (W := W)) $$ [HO Ht Hc Ha]
  · isplitr; · iapply (records_inv m K (fwd k c) none); iexact HR
    isplitl [HO]; · iexact HO
    isplitl [Ht]; · iexact Ht
    isplitl [Hc Ha]
    · rw [payload_bar]; unfold barPay; rw [fwd_rev]
      isplitl [Hc] <;> iassumption
    iapply (records_reached m K (fwd k c) none); iexact HR
  iintro HO
  iapply Hk
  iexists W; iexact HO

/-- The barrier's wait: the landing slots on the three other devices. -/
theorem step_barrier (sem : Sem sig) (hs : sem = barS) (a : ℕ) (ha : 3 = a)
    {kk : PUnit → Prog (TpuEff nD τ sig (Elt F) Λ₀ .tc) α} :
    iprop(records m K ∗ levAts L lv ∗ owing c 6 ∗ cred (tallyAt (barCell c) () 3) ∗ atPos ER (barCell c) 0 ∅ 0)
      ⊢ iprop((iprop(owing c 6 ∗ atPos ER (barCell c) (0 + 1) ∅ 0 ∗ barPay c 0 ∗ barPay c 1 ∗ barPay c 2) -∗ WP c (kk ⟨⟩) Q)
          -∗ WP c (.op (.semWait sem a) kk) Q) := by
  subst hs ha
  iintro ⟨#HR, #HL, ⟨%W, HO⟩, Hc, Hat⟩ Hk
  iapply (Rounds.wp_wait_rest_token 𝒱₀ ER (ringRd m) (c : Thread nD τ) none (κ := K (c, none))
      (wpE_semWait_eq 𝒱₀ (c : Thread nD τ) none Set.univ) (Set.mem_univ _) () (O := Ow c 6) (W := W) (R := 0) (m := 0) (T := ∅)
      (by rw [expect_bar])) $$ [HO Hc Hat]
  · isplitr; · iapply (records_inv m K c none); iexact HR
    isplitl [Hc]; · iexact Hc
    isplitl [HO]; · iexact HO
    isplitr; · iapply (mayWait_bar c); iexact HL
    iexact Hat
  iintro ⟨HO, Hat, -, Hp⟩
  ihave Hp := (Entails.of_eq (rest_bar m c)) $$ Hp
  iapply Hk
  isplitl [HO]; · iexists _; iexact HO
  isplitl [Hat]; · iexact Hat
  iexact Hp

/-- The wait on any other cell: its one hand-over. -/
theorem step_wait (t : Fin 4) (k : Fin 3) (sem : DmaSem sig) (hs : sem = no t k) (n : ℕ)
    (hw : (levAts L lv : sProp 𝕄) ⊢ MayWait (c : Thread nD τ) (.dma (no t k)) () (Ow c n))
    {sp sp' : Space} {s s' : Shape} {e e' : EltTy} {κ' : Kind} {srcw : Memref sig .tc sp' s' e'} {dstw : Memref sig κ' sp s e}
    (hN : dstw.view.dmaCredit = amtOf (some (t, k)))
    {hsrc : srcw.view.WordExact} {hdst : dstw.view.WordExact}
    {kk : PUnit → Prog (TpuEff nD τ sig (Elt F) Λ₀ .tc) α} :
    iprop(records m K ∗ levAts L lv ∗ owing c n ∗ cred (tallyAt (cell c t k) () (amtOf (some (t, k)))) ∗ atPos ER (cell c t k) 0 ∅ 0)
      ⊢ iprop((iprop(owing c n ∗ atPos ER (cell c t k) (0 + 1) ∅ 0 ∗ payOf m c (some (t, k)) 0) -∗ WP c (kk ⟨⟩) Q)
          -∗ WP c (.op (.waitDma2 sem srcw dstw hsrc hdst) kk) Q) := by
  subst hs
  iintro ⟨#HR, #HL, ⟨%W, HO⟩, Hc, Hat⟩ Hk
  iapply (Rounds.wp_wait_rest_token 𝒱₀ ER (ringRd m) (c : Thread nD τ) none (κ := K (c, some (t, k)))
      (wpE_waitDma2_eq 𝒱₀ (c : Thread nD τ) none Set.univ) (Set.mem_univ _) () (O := Ow c n) (W := W) (R := 0) (m := 0) (T := ∅)
      (by rw [expect_cell, Nat.zero_add, hN])) $$ [HO Hc Hat]
  · isplitr; · iapply (records_inv m K c (some (t, k))); iexact HR
    isplitl [Hc]; · rw [hN]; iexact Hc
    isplitl [HO]; · iexact HO
    isplitr; · iapply hw; iexact HL
    iexact Hat
  iintro ⟨HO, Hat, -, Hp⟩
  ihave Hp := (Entails.of_eq (rest_cell m c t k)) $$ Hp
  iapply Hk
  isplitl [HO]; · iexists _; iexact HO
  isplitl [Hat]; · iexact Hat
  iexact Hp

/-- Who owes nothing may wait on anything. -/
theorem mayWait_free (c : Dev nD) (q : DmaSem sig) : (levAts L lv : sProp 𝕄) ⊢ MayWait (c : Thread nD τ) (.dma q) () (Ow c 0) := by
  show _ ⊢ MayWait (c : Thread nD τ) (.dma q) () 0
  rw [MayWait_zero]; iintro -; iempintro

/-- A landed row block: the landing slot holding what the device `k + 1` places back sent. -/
theorem step_wait_recv (k : Fin 3) (sem : DmaSem sig) (hs : sem = no 1 k)
    {sp sp' : Space} {s s' : Shape} {e e' : EltTy} {κ' : Kind} {srcw : Memref sig .tc sp' s' e'} {dstw : Memref sig κ' sp s e}
    (hN : dstw.view.dmaCredit = NX) {hsrc : srcw.view.WordExact} {hdst : dstw.view.WordExact}
    {kk : PUnit → Prog (TpuEff nD τ sig (Elt F) Λ₀ .tc) α} :
    iprop(records m K ∗ levAts L lv ∗ owing c 3 ∗ cred (tallyAt (cell c 1 k) () NX) ∗ atPos ER (cell c 1 k) 0 ∅ 0)
      ⊢ iprop((iprop(owing c 3 ∗ atPos ER (cell c 1 k) (0 + 1) ∅ 0 ∗ has (c : Thread nD τ) (cmA k) fullShare (sent m k (bwd k c))) -∗ WP c (kk ⟨⟩) Q)
          -∗ WP c (.op (.waitDma2 sem srcw dstw hsrc hdst) kk) Q) :=
  step_wait m K c 1 k sem hs 3 (mayWait_recv c k) hN
/-- A row block's send done: the slot sent from. -/
theorem step_wait_send (k : Fin 3) (sem : DmaSem sig) (hs : sem = no 0 k)
    {sp sp' : Space} {s s' : Shape} {e e' : EltTy} {κ' : Kind} {srcw : Memref sig .tc sp' s' e'} {dstw : Memref sig κ' sp s e}
    (hN : dstw.view.dmaCredit = NX) {hsrc : srcw.view.WordExact} {hdst : dstw.view.WordExact}
    {kk : PUnit → Prog (TpuEff nD τ sig (Elt F) Λ₀ .tc) α} :
    iprop(records m K ∗ levAts L lv ∗ owing c 0 ∗ cred (tallyAt (cell c 0 k) () NX) ∗ atPos ER (cell c 0 k) 0 ∅ 0)
      ⊢ iprop((iprop(owing c 0 ∗ atPos ER (cell c 0 k) (0 + 1) ∅ 0 ∗ has (c : Thread nD τ) (stA k.castSucc) fullShare (sent m k c)) -∗ WP c (kk ⟨⟩) Q)
          -∗ WP c (.op (.waitDma2 sem srcw dstw hsrc hdst) kk) Q) :=
  step_wait m K c 0 k sem hs 0 (mayWait_free c _) hN
/-- A landed maximum. -/
theorem step_wait_arecv (k : Fin 3) (sem : DmaSem sig) (hs : sem = no 3 k)
    {sp sp' : Space} {s s' : Shape} {e e' : EltTy} {κ' : Kind} {srcw : Memref sig .tc sp' s' e'} {dstw : Memref sig κ' sp s e}
    (hN : dstw.view.dmaCredit = NA) {hsrc : srcw.view.WordExact} {hdst : dstw.view.WordExact}
    {kk : PUnit → Prog (TpuEff nD τ sig (Elt F) Λ₀ .tc) α} :
    iprop(records m K ∗ levAts L lv ∗ owing c 0 ∗ cred (tallyAt (cell c 3 k) () NA) ∗ atPos ER (cell c 3 k) 0 ∅ 0)
      ⊢ iprop((iprop(owing c 0 ∗ atPos ER (cell c 3 k) (0 + 1) ∅ 0 ∗ has (c : Thread nD τ) (amA k.castSucc) fullShare (amx m (bwd k c))) -∗ WP c (kk ⟨⟩) Q)
          -∗ WP c (.op (.waitDma2 sem srcw dstw hsrc hdst) kk) Q) :=
  step_wait m K c 3 k sem hs 0 (mayWait_free c _) hN
/-- A maximum's send done: the read share it was lent. -/
theorem step_wait_asend (k : Fin 3) (sem : DmaSem sig) (hs : sem = no 2 k)
    {sp sp' : Space} {s s' : Shape} {e e' : EltTy} {κ' : Kind} {srcw : Memref sig .tc sp' s' e'} {dstw : Memref sig κ' sp s e}
    (hN : dstw.view.dmaCredit = NA) {hsrc : srcw.view.WordExact} {hdst : dstw.view.WordExact}
    {kk : PUnit → Prog (TpuEff nD τ sig (Elt F) Λ₀ .tc) α} :
    iprop(records m K ∗ levAts L lv ∗ owing c 0 ∗ cred (tallyAt (cell c 2 k) () NA) ∗ atPos ER (cell c 2 k) 0 ∅ 0)
      ⊢ iprop((iprop(owing c 0 ∗ atPos ER (cell c 2 k) (0 + 1) ∅ 0 ∗ has (c : Thread nD τ) (amA 3) (lent k) (amx m c)) -∗ WP c (kk ⟨⟩) Q)
          -∗ WP c (.op (.waitDma2 sem srcw dstw hsrc hdst) kk) Q) :=
  step_wait m K c 2 k sem hs 0 (mayWait_free c _) hN

/-- A transfer addressed to device `c'`, from a view held at a share into a view of `c'` held in full. -/
theorem step_send (t u : Fin 4) (k : Fin 3) (c' : Dev nD) (hamt : amtOf (some (t, k)) = amtOf (some (u, k)))
    (n : ℕ) (hn : owedCl n = (k, some (u, k))) (hc : c' = fwd k c)
    {sp sp' : Space} {s : Shape} {e : EltTy} {src : Memref sig .tc sp s e} {dst : Memref sig .tc sp' s e} {hsc : dst.view.ref.isScScratch = false}
    {hsrc : src.view.WordExact} {hdst : dst.view.WordExact}
    {hsem : DmaTarget.Typed sp (.dma (no u k)) (.remote (Dev.tc c' : Thread nD τ) dst (.dma (no t k)) hsc)}
    (hN : dst.view.dmaCredit = amtOf (some (u, k))) (q : PosShare TreeShare) (X : s.Idx → Elt F e)
    (hp₁ : (has (c : Thread nD τ) src.view q X : sProp 𝕄) ⊢ payOf m c (some (t, k)) 0)
    (hp₂ : (has (fwd k c : Thread nD τ) dst.view fullShare X : sProp 𝕄) ⊢ payOf m (fwd k c) (some (u, k)) 0)
    {kk : PUnit → Prog (TpuEff nD τ sig (Elt F) Λ₀ .tc) α} :
    iprop(records m K ∗ has (c : Thread nD τ) src.view q X ∗ (∃ Y, has (fwd k c : Thread nD τ) dst.view fullShare Y) ∗ owing c (n + 1)
        ∗ dutyTok ER (cell c t k) 0 0 ∗ dutyTok ER (cell (fwd k c) u k) 0 0)
      ⊢ iprop((iprop(cred (tallyAt (cell c t k) () (amtOf (some (u, k)))) ∗ owing c n) -∗ WP c (kk ⟨⟩) Q)
          -∗ WP c (.op (.enqueueDma src (.remote (Dev.tc c' : Thread nD τ) dst (.dma (no t k)) hsc) (.dma (no u k)) hsrc hdst hsem) kk) Q) := by
  subst hc
  iintro ⟨#HR, Hs, ⟨%Y, Hd⟩, ⟨%W, HO⟩, Ht, Hu⟩ Hk
  ihave Hs' := (read_of_has (c : Thread nD τ) src.view q X) $$ Hs
  ihave Hd' := (read_of_has (fwd k c : Thread nD τ) dst.view fullShare Y) $$ Hd
  icases Hs' with ⟨%f, %hf, Hs⟩
  icases Hd' with ⟨%g, -, Hd⟩
  have h₁ : (src.view.loc (c : Thread nD τ) ↦[src.view.set]{q} f : sProp 𝕄) ⊢ (ringRd m).payload (cell c t k) 0 0 :=
    (has_of_read (c : Thread nD τ) src.view q X f hf).trans (hp₁.trans (Entails.of_eq (payload_cell m c t k 0).symm))
  have h₂ : (dst.view.loc (fwd k c : Thread nD τ) ↦[dst.view.set]{fullShare} (dst.view.write (Elt F) g (src.view.read (Elt F) f) Finset.univ) : sProp 𝕄)
      ⊢ (ringRd m).payload (cell (fwd k c) u k) 0 0 :=
    (has_of_read (fwd k c : Thread nD τ) dst.view fullShare X _ ((View.read_write_univ _ _).trans hf)).trans
      (hp₂.trans (Entails.of_eq (payload_cell m (fwd k c) u k 0).symm))
  iapply (Rounds.wp_send_pointsTo 𝒱₀ ER (ringRd m) (c : Thread nD τ) none (κ₁ := K (c, some (t, k))) (κ₂ := K (fwd k c, some (u, k)))
    (r₁ := 0) (r₂ := 0) (d₁ := 0) (d₂ := 0) (q := q) (fs := f) (fd := g) (mem_cell m c t k) (mem_cell m (fwd k c) u k)
    () () (amtOf (some (u, k))) hN ((amount_cell m c t k 0).trans hamt) (amount_cell m (fwd k c) u k 0) (Ow c n)
    (Ow_succ c hn) (W := W) h₁ h₂) $$ [HO Hs Hd Ht Hu]
  · isplitr; · iapply (records_inv m K c (some (t, k))); iexact HR
    isplitr; · iapply (records_inv m K (fwd k c) (some (u, k))); iexact HR
    isplitl [Hs]; · iexact Hs
    isplitl [Hd]; · iexact Hd
    isplitl [HO]; · iexact HO
    isplitl [Ht]; · iexact Ht
    isplitr; · iapply (records_reached m K c (some (t, k))); iexact HR
    isplitl [Hu]; · iexact Hu
    iapply (records_reached m K (fwd k c) (some (u, k))); iexact HR
  iintro ⟨Hc, HO⟩
  iapply Hk
  isplitl [Hc]; · iexact Hc
  iexists W; iexact HO

/-- Handing the closed cell's counter back at zero. -/
theorem close_cell (x : Cl) : iprop(records m K ∗ atPos ER (kcell (c, x)) (0 + 1) ∅ 0) ⊢ iprop(|={Set.univ}=> semVal (kcell (c, x)) 0 : sProp 𝕄) := by
  iintro ⟨#HR, Hat⟩
  iapply (Rounds.cell_close ER (ringRd m) (Set.mem_univ (K (c, x))) (fun h => h) (R := 0 + 1) (duties_later m (kcell (c, x))))
  isplitr; · iapply (records_inv m K c x); iexact HR
  iexact Hat

end Rules

end Cert.KProof

end
-- ==== Proof.Moves.lean ====
/-
# Moves: the body's transfers, slot to slot

The sends of the row blocks and of the maxima, and the local transfers of a row block of `x` and of rows of `w` with their waits.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## The slots as the transfers address them -/

abbrev xbQ (k : Fin 2) : Memref sig .tc .vmem S1024x1024 .f32 := (xbM.slice (xbR k) (fun _ => rfl)).squeeze S1024x1024 squeezes_S1x1024x1024_S1024x1024
abbrev stQ (k : Fin 4) : Memref sig .tc .vmem S1024x1024 .bf16 := (stM.slice (stR k) (fun _ => rfl)).squeeze S1024x1024 squeezes_S1x1024x1024_S1024x1024
abbrev cmQ (k : Fin 3) : Memref sig .tc .vmem S1024x1024 .bf16 := (cmM.slice (cmR k) (fun _ => rfl)).squeeze S1024x1024 squeezes_S1x1024x1024_S1024x1024
abbrev amQ (k : Fin 4) : Memref sig .tc .vmem S8x128 .f32 := (amM.slice (amR k) (fun _ => rfl)).squeeze S8x128 squeezes_S1x8x128_S8x128

/-- A 1x1024x1024 slot's contents as a block, -/
def blockOf {e : EltTy} (X : S1x1024x1024.Idx → Elt F e) : S1024x1024.Idx → Elt F e :=
  fun j => X (Shape.reshapeEquiv (Shape.Squeezes.numel_eq squeezes_S1x1024x1024_S1024x1024) j)
/-- and a 1x8x128 slot's. -/
def tileOf {e : EltTy} (X : S1x8x128.Idx → Elt F e) : S8x128.Idx → Elt F e :=
  fun j => X (Shape.reshapeEquiv (Shape.Squeezes.numel_eq squeezes_S1x8x128_S8x128) j)
section Slots
variable (c : Dev nD) (q : PosShare TreeShare)

/-- A slot is also a plain block, the form in which transfers name it. A staged block: to that form -/
theorem st_out (k : Fin 4) (X : S1x1024x1024.Idx → Elt F .bf16) :
    (has (c : Thread nD τ) (stA k) q X : sProp 𝕄) ⊢ has (c : Thread nD τ) (stQ k).view q (blockOf X) :=
  slot_out (c : Thread nD τ) stM (stR k) (fun _ => rfl) squeezes_S1x1024x1024_S1024x1024 q X
/-- and back; -/
theorem st_in (k : Fin 4) (X : S1x1024x1024.Idx → Elt F .bf16) :
    (has (c : Thread nD τ) (stQ k).view q (blockOf X) : sProp 𝕄) ⊢ has (c : Thread nD τ) (stA k) q X :=
  slot_in (c : Thread nD τ) stM (stR k) (fun _ => rfl) squeezes_S1x1024x1024_S1024x1024 q X
/-- a received block: to that form -/
theorem cm_out (k : Fin 3) (X : S1x1024x1024.Idx → Elt F .bf16) :
    (has (c : Thread nD τ) (cmA k) q X : sProp 𝕄) ⊢ has (c : Thread nD τ) (cmQ k).view q (blockOf X) :=
  slot_out (c : Thread nD τ) cmM (cmR k) (fun _ => rfl) squeezes_S1x1024x1024_S1024x1024 q X
/-- and back; -/
theorem cm_in (k : Fin 3) (X : S1x1024x1024.Idx → Elt F .bf16) :
    (has (c : Thread nD τ) (cmQ k).view q (blockOf X) : sProp 𝕄) ⊢ has (c : Thread nD τ) (cmA k) q X :=
  slot_in (c : Thread nD τ) cmM (cmR k) (fun _ => rfl) squeezes_S1x1024x1024_S1024x1024 q X
/-- a tile of maxima: to that form -/
theorem am_out (k : Fin 4) (X : S1x8x128.Idx → Elt F .f32) :
    (has (c : Thread nD τ) (amA k) q X : sProp 𝕄) ⊢ has (c : Thread nD τ) (amQ k).view q (tileOf X) :=
  slot_out (c : Thread nD τ) amM (amR k) (fun _ => rfl) squeezes_S1x8x128_S8x128 q X
/-- and back; -/
theorem am_in (k : Fin 4) (X : S1x8x128.Idx → Elt F .f32) :
    (has (c : Thread nD τ) (amQ k).view q (tileOf X) : sProp 𝕄) ⊢ has (c : Thread nD τ) (amA k) q X :=
  slot_in (c : Thread nD τ) amM (amR k) (fun _ => rfl) squeezes_S1x8x128_S8x128 q X
/-- a float32 block: to that form -/
theorem xb_out (k : Fin 2) (X : S1x1024x1024.Idx → Elt F .f32) :
    (has (c : Thread nD τ) (xbA k) q X : sProp 𝕄) ⊢ has (c : Thread nD τ) (xbQ k).view q (blockOf X) :=
  slot_out (c : Thread nD τ) xbM (xbR k) (fun _ => rfl) squeezes_S1x1024x1024_S1024x1024 q X
/-- and back. -/
theorem xb_in (k : Fin 2) (X : S1024x1024.Idx → Elt F .f32) :
    (has (c : Thread nD τ) (xbQ k).view q X : sProp 𝕄) ⊢ has (c : Thread nD τ) (xbA k) q (slotOf X) :=
  slot_back (c : Thread nD τ) xbM (xbR k) (fun _ => rfl) squeezes_S1x1024x1024_S1024x1024 q X

end Slots

section Rules

variable (K : Dev nD × Cl → ℕ) (c : Dev nD) {α : Type} {Q : α → sProp (MT nD τ sig Unit (Elt F) ℕ UU ℕ)}

/-- The send of the row block of the device `k + 1` places further. -/
theorem step_send_x (k : Fin 3) (c' : Dev nD) (hc : c' = fwd k c) (n : ℕ) (hn : owedCl n = (k, some (1, k)))
    {hsc : (cmQ k).view.ref.isScScratch = false} {hsrc : (stQ k.castSucc).view.WordExact} {hdst : (cmQ k).view.WordExact}
    {hsem : DmaTarget.Typed .vmem (.dma (no 1 k)) (.remote (Dev.tc c' : Thread nD τ) (cmQ k) (.dma (no 0 k)) hsc)}
    {kk : PUnit → Prog (TpuEff nD τ sig (Elt F) Λ₀ .tc) α} :
    iprop(records m K ∗ has (c : Thread nD τ) (stA k.castSucc) fullShare (sent m k c) ∗ (∃ Y, has (fwd k c : Thread nD τ) (cmA k) fullShare Y)
        ∗ owing c (n + 1) ∗ dutyTok ER (cell c 0 k) 0 0 ∗ dutyTok ER (cell (fwd k c) 1 k) 0 0)
      ⊢ iprop((iprop(cred (tallyAt (cell c 0 k) () NX) ∗ owing c n) -∗ WP c (kk ⟨⟩) Q)
          -∗ WP c (.op (.enqueueDma (stQ k.castSucc) (.remote (Dev.tc c' : Thread nD τ) (cmQ k) (.dma (no 0 k)) hsc) (.dma (no 1 k)) hsrc hdst hsem) kk) Q) := by
  have h₁ : (has (c : Thread nD τ) (stQ k.castSucc).view fullShare (blockOf (sent m k c)) : sProp 𝕄) ⊢ payOf m c (some (0, k)) 0 := st_in c fullShare k.castSucc _
  have h₂ : (has (fwd k c : Thread nD τ) (cmQ k).view fullShare (blockOf (sent m k c)) : sProp 𝕄) ⊢ payOf m (fwd k c) (some (1, k)) 0 := by
    refine (cm_in (fwd k c) fullShare k _).trans (Entails.of_eq ?_)
    show _ = recvPay m (fwd k c) k
    unfold recvPay; rw [bwd_fwd]
  iintro ⟨#HR, Hs, ⟨%Y, Hd⟩, HO, Ht, Hu⟩
  iapply (step_send m K c 0 1 k c' rfl n hn hc (src := stQ k.castSucc) (dst := cmQ k) rfl fullShare (blockOf (sent m k c)) h₁ h₂)
  isplitr; · iexact HR
  isplitl [Hs]; · iapply (st_out c fullShare k.castSucc (sent m k c)); iexact Hs
  isplitl [Hd]; · iexists (blockOf Y); iapply (cm_out (fwd k c) fullShare k Y); iexact Hd
  isplitl [HO]; · iexact HO
  isplitl [Ht] <;> iassumption

/-- The send of the own maximum to the device `k + 1` places further. -/
theorem step_send_a (k : Fin 3) (c' : Dev nD) (hc : c' = fwd k c) (n : ℕ) (hn : owedCl n = (k, some (3, k)))
    {hsc : (amQ k.castSucc).view.ref.isScScratch = false} {hsrc : (amQ 3).view.WordExact} {hdst : (amQ k.castSucc).view.WordExact}
    {hsem : DmaTarget.Typed .vmem (.dma (no 3 k)) (.remote (Dev.tc c' : Thread nD τ) (amQ k.castSucc) (.dma (no 2 k)) hsc)}
    {kk : PUnit → Prog (TpuEff nD τ sig (Elt F) Λ₀ .tc) α} :
    iprop(records m K ∗ has (c : Thread nD τ) (amA 3) (lent k) (amx m c) ∗ (∃ Y, has (fwd k c : Thread nD τ) (amA k.castSucc) fullShare Y)
        ∗ owing c (n + 1) ∗ dutyTok ER (cell c 2 k) 0 0 ∗ dutyTok ER (cell (fwd k c) 3 k) 0 0)
      ⊢ iprop((iprop(cred (tallyAt (cell c 2 k) () NA) ∗ owing c n) -∗ WP c (kk ⟨⟩) Q)
          -∗ WP c (.op (.enqueueDma (amQ 3) (.remote (Dev.tc c' : Thread nD τ) (amQ k.castSucc) (.dma (no 2 k)) hsc) (.dma (no 3 k)) hsrc hdst hsem) kk) Q) := by
  have h₁ : (has (c : Thread nD τ) (amQ 3).view (lent k) (tileOf (amx m c)) : sProp 𝕄) ⊢ payOf m c (some (2, k)) 0 := am_in c (lent k) 3 _
  have h₂ : (has (fwd k c : Thread nD τ) (amQ k.castSucc).view fullShare (tileOf (amx m c)) : sProp 𝕄) ⊢ payOf m (fwd k c) (some (3, k)) 0 := by
    refine (am_in (fwd k c) fullShare k.castSucc _).trans (Entails.of_eq ?_)
    show _ = arecvPay m (fwd k c) k
    unfold arecvPay; rw [bwd_fwd]
  iintro ⟨#HR, Hs, ⟨%Y, Hd⟩, HO, Ht, Hu⟩
  iapply (step_send m K c 2 3 k c' rfl n hn hc (src := amQ 3) (dst := amQ k.castSucc) rfl (lent k) (tileOf (amx m c)) h₁ h₂)
  isplitr; · iexact HR
  isplitl [Hs]; · iapply (am_out c (lent k) 3 (amx m c)); iexact Hs
  isplitl [Hd]; · iexists (tileOf Y); iapply (am_out (fwd k c) fullShare k.castSucc Y); iexact Hd
  isplitl [HO]; · iexact HO
  isplitl [Ht] <;> iassumption

/-- The credit of a local transfer of a row block of `x` and of rows of `w`. -/
def NF : ℕ := (xbQ 0).view.dmaCredit
def NW : ℕ := (wfM : Memref sig .tc .vmem S1024x2048 .f32).view.dmaCredit

/-- The credit of a local copy is positive: of a block of `x` -/
theorem NF_pos : 0 < NF := View.dmaCredit_pos _ (by decide)
/-- and of a block of `w`. -/
theorem NW_pos : 0 < NW := View.dmaCredit_pos _ (by decide)
/-- The credit that a copy of `w` gives, -/
theorem amount_w : (wfM : Memref sig .tc .vmem S1024x2048 .f32).view.amount (.dma (9 : DmaSem sig)) = NW := rfl
/-- and one of `x`. -/
theorem amount_x (s : Fin 2) (sem : DmaSem sig) : (xbQ s).view.amount (.dma sem) = NF := rfl

/-- Device `c`'s arguments, held at a share, -/
abbrev xArg (q : PosShare TreeShare) : sProp 𝕄 := iprop(((c : Thread nD τ).loc main_arg0) ↦{q} A0 m c)
abbrev wArg : sProp 𝕄 := iprop(((c : Thread nD τ).loc main_arg1) ↦{fullShare} A1 m c)
/-- and its buffer for rows of `w`. -/
abbrev wfP (X : S1024x2048.Idx → Elt F .f32) : sProp 𝕄 := iprop(((c : Thread nD τ).loc cc0_scratch3) ↦{fullShare} X)

/-- A row block of `x` on its way into slot `s`. -/
abbrev xFly (q : PosShare TreeShare) (s : Fin 2) (sem : DmaSem sig) (X : S1024x1024.Idx → Elt F .f32) : sProp 𝕄 :=
  inflight (c : Thread nD τ) EC (.dma sem) () NF iprop(xArg m c q ∗ has (c : Thread nD τ) (xbQ s).view fullShare X)
/-- Rows of `w` on their way. -/
abbrev wFly (X : S1024x2048.Idx → Elt F .f32) : sProp 𝕄 :=
  inflight (c : Thread nD τ) EC (.dma 9) () NW iprop(wArg m c ∗ has (c : Thread nD τ) (View.whole cc0_scratch3) fullShare X)

/-- Starting the copy of a block of `x` into a slot, -/
theorem step_copy_x (q : PosShare TreeShare) (s : Fin 2) (Y : S1x1024x1024.Idx → Elt F .f32) {off : Fin 2 → Nat}
    {inb : ∀ a, off a + S1024x1024.size a ≤ S4096x1024.size a} {sem : DmaSem sig}
    {hsrc : ((Memref.whole main_arg0 : Memref sig .tc .hbm S4096x1024 .f32).slice (Rect.unit (s := S4096x1024) off S1024x1024.size inb) (fun _ => rfl)).view.WordExact}
    {hdst : (xbQ s).view.WordExact} {hsem : DmaTarget.Typed (nD := nD) (τ := τ) (p := Proc.tc) .hbm (.dma sem) (.here (xbQ s))}
    {kk : PUnit → Prog (TpuEff nD τ sig (Elt F) Λ₀ .tc) α} :
    iprop(xArg m c q ∗ has (c : Thread nD τ) (xbA s) fullShare Y ∗ semVal ((c : Thread nD τ), .dma sem) 0)
      ⊢ iprop((xFly m c q s sem (fun j => A0 m c ((Rect.unit (s := S4096x1024) off S1024x1024.size inb).emb j)) -∗ WP c (kk ⟨⟩) Q)
          -∗ WP c (.op (.enqueueDma ((Memref.whole main_arg0 : Memref sig .tc .hbm S4096x1024 .f32).slice (Rect.unit (s := S4096x1024) off S1024x1024.size inb) (fun _ => rfl))
              (.here (xbQ s)) (.dma sem) hsrc hdst hsem) kk) Q) := by
  iintro ⟨Hx, Hb, Hv⟩
  iapply (wp_copy_whole 𝒱₀ (c : Thread nD τ) none EC main_arg0 (r := Rect.unit (s := S4096x1024) off S1024x1024.size inb) (dst := xbQ s) q (A0 m c) (blockOf Y) () NF (amount_x s sem) NF_pos)
  isplitl [Hx]; · iexact Hx
  isplitl [Hb]; · iapply (xb_out c fullShare s Y); iexact Hb
  iexact Hv

/-- and of a block of `w` into its buffer. -/
theorem step_copy_w (Y : S1024x2048.Idx → Elt F .f32) {off : Fin 2 → Nat}
    {inb : ∀ a, off a + S1024x2048.size a ≤ S4096x2048.size a}
    {hsrc : ((Memref.whole main_arg1 : Memref sig .tc .hbm S4096x2048 .f32).slice (Rect.unit (s := S4096x2048) off S1024x2048.size inb) (fun _ => rfl)).view.WordExact}
    {hdst : (wfM : Memref sig .tc .vmem S1024x2048 .f32).view.WordExact} {hsem : DmaTarget.Typed (nD := nD) (τ := τ) (p := Proc.tc) .hbm (.dma 9) (.here wfM)}
    {kk : PUnit → Prog (TpuEff nD τ sig (Elt F) Λ₀ .tc) α} :
    iprop(wArg m c ∗ wfP c Y ∗ semVal ((c : Thread nD τ), .dma (9 : DmaSem sig)) 0)
      ⊢ iprop((wFly m c (fun j => A1 m c ((Rect.unit (s := S4096x2048) off S1024x2048.size inb).emb j)) -∗ WP c (kk ⟨⟩) Q)
          -∗ WP c (.op (.enqueueDma ((Memref.whole main_arg1 : Memref sig .tc .hbm S4096x2048 .f32).slice (Rect.unit (s := S4096x2048) off S1024x2048.size inb) (fun _ => rfl))
              (.here wfM) (.dma 9) hsrc hdst hsem) kk) Q) := by
  iintro ⟨Hx, Hb, Hv⟩
  iapply (wp_copy_whole 𝒱₀ (c : Thread nD τ) none EC main_arg1 (r := Rect.unit (s := S4096x2048) off S1024x2048.size inb) (dst := wfM) fullShare (A1 m c) Y () NW amount_w NW_pos)
  isplitl [Hx]; · iexact Hx
  isplitl [Hb]; · iapply (Entails.of_eq (has_whole (c : Thread nD τ) cc0_scratch3 fullShare Y).symm); iexact Hb
  iexact Hv

/-- Waiting for a copied block of `x`: the slot then holds it, -/
theorem step_wait_x (q : PosShare TreeShare) (s : Fin 2) (X : S1024x1024.Idx → Elt F .f32) {sem : DmaSem sig} (hsem : ∀ x, csem x ≠ .dma sem) {n : ℕ} (hn : n ≤ 9)
    {sp' : Space} {s' : Shape} {e' : EltTy} {srcw : Memref sig .tc sp' s' e'} {hsrc : srcw.view.WordExact} {hdst : (xbQ s).view.WordExact}
    {kk : PUnit → Prog (TpuEff nD τ sig (Elt F) Λ₀ .tc) α} :
    iprop(levAts L lv ∗ xFly m c q s sem X ∗ owing c n)
      ⊢ iprop((iprop(owing c n ∗ xArg m c q ∗ has (c : Thread nD τ) (xbA s) fullShare (slotOf X) ∗ semVal ((c : Thread nD τ), .dma sem) 0) -∗ WP c (kk ⟨⟩) Q)
          -∗ WP c (.op (.waitDma2 sem srcw (xbQ s) hsrc hdst) kk) Q) := by
  iintro ⟨#HL, Hf, ⟨%W, HO⟩⟩ Hk
  iapply (wp_wait_inflight 𝒱₀ (c : Thread nD τ) none EC () (dstw := xbQ s) (N := NF) rfl (O := Ow c n) (W := W)) $$ [Hf HO]
  · isplitl [Hf]; · iexact Hf
    isplitl [HO]; · iexact HO
    iapply (mayWait_plain c sem hsem hn); iexact HL
  iintro ⟨⟨Hx, Hb⟩, Hv, HO⟩
  iapply Hk
  isplitl [HO]; · iexists _; iexact HO
  isplitl [Hx]; · iexact Hx
  isplitl [Hb]; · iapply (xb_in c fullShare s X); iexact Hb
  iexact Hv

/-- and for a block of `w`. -/
theorem step_wait_w (X : S1024x2048.Idx → Elt F .f32) {n : ℕ} (hn : n ≤ 9)
    {sp' : Space} {s' : Shape} {e' : EltTy} {srcw : Memref sig .tc sp' s' e'} {hsrc : srcw.view.WordExact} {hdst : (wfM : Memref sig .tc .vmem S1024x2048 .f32).view.WordExact}
    {kk : PUnit → Prog (TpuEff nD τ sig (Elt F) Λ₀ .tc) α} :
    iprop(levAts L lv ∗ wFly m c X ∗ owing c n)
      ⊢ iprop((iprop(owing c n ∗ wArg m c ∗ wfP c X ∗ semVal ((c : Thread nD τ), .dma (9 : DmaSem sig)) 0) -∗ WP c (kk ⟨⟩) Q)
          -∗ WP c (.op (.waitDma2 9 srcw wfM hsrc hdst) kk) Q) := by
  iintro ⟨#HL, Hf, ⟨%W, HO⟩⟩ Hk
  iapply (wp_wait_inflight 𝒱₀ (c : Thread nD τ) none EC () (dstw := wfM) (N := NW) rfl (O := Ow c n) (W := W)) $$ [Hf HO]
  · isplitl [Hf]; · iexact Hf
    isplitl [HO]; · iexact HO
    iapply (mayWait_plain c 9 (by decide) hn); iexact HL
  iintro ⟨⟨Hx, Hb⟩, Hv, HO⟩
  iapply Hk
  isplitl [HO]; · iexists _; iexact HO
  isplitl [Hx]; · iexact Hx
  isplitl [Hb]; · iapply (Entails.of_eq (has_whole (c : Thread nD τ) cc0_scratch3 fullShare X)); iexact Hb
  iexact Hv

/-- A load of the whole buffer of rows of `w`. -/
theorem step_load_w (X : S1024x2048.Idx → Elt F .f32) {inb : ∀ a, (![0, 0] : Fin 2 → Nat) a + S1024x2048.size a ≤ S1024x2048.size a}
    {hl : (wfM : Memref sig .tc .vmem S1024x2048 .f32).view.LoadsAt (Rect.unit (s := S1024x2048) ![0, 0] S1024x2048.size inb).toLoadRect}
    {kk : (S1024x2048.Idx → Elt F .f32) → Prog (TpuEff nD τ sig (Elt F) Λ₀ .tc) α} :
    (wfP c X : sProp 𝕄) ⊢ iprop((wfP c X -∗ WP c (kk X) Q) -∗ WP c (.op (.load wfM (Rect.unit (s := S1024x2048) ![0, 0] S1024x2048.size inb).toLoadRect hl) kk) Q) := by
  have e := has_unit_zero (Ix := Unit) (U := UU) (Val := Elt F) (c : Thread nD τ) cc0_scratch3 fullShare (off := ![0, 0]) (funext fun a => by fin_cases a <;> rfl) inb X
  rw [wfP, ← e]
  exact wp_load_has (m := wfM) (r := Rect.unit (s := S1024x2048) ![0, 0] S1024x2048.size inb) (hl := hl) 𝒱₀ (c : Thread nD τ) none fullShare X

end Rules

end Cert.KProof

end
-- ==== Proof.PartA.lean ====
/-
# Parts 1 to 5 of the body

Each part from what it takes to what it leaves, for any end of the program after it.
-/
module

public import proofs.«01_k».proof.Proof.Moves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- A program that has returned. -/
theorem WP_ret (c : Dev nD) {α : Type} (a : α) (Q : α → sProp (MT nD τ sig Unit (Elt F) ℕ UU ℕ)) : Q a ⊢ WP c (Prog.ret a) Q := by
  rw [WP, wp_ret]; iintro H; imodintro; iexact H

variable (m : (ℓ : Loc nD τ sig) → Buf (Elt F) ℓ) (K : Dev nD × Cl → ℕ) (c : Dev nD)

/-- The counter of device `c`'s DMA semaphore `s` at zero, and its landing slots, stage slots and slots for row blocks of `x` held in full. -/
abbrev zero (s : DmaSem sig) : sProp 𝕄 := semVal ((c : Thread nD τ), .dma s) 0
abbrev hasX (k : Fin 2) (X : S1x1024x1024.Idx → Elt F .f32) : sProp 𝕄 := has (c : Thread nD τ) (xbA k) fullShare X
abbrev hasS (k : Fin 4) (X : S1x1024x1024.Idx → Elt F .bf16) : sProp 𝕄 := has (c : Thread nD τ) (stA k) fullShare X
abbrev hasC (k : Fin 3) (X : S1x1024x1024.Idx → Elt F .bf16) : sProp 𝕄 := has (c : Thread nD τ) (cmA k) fullShare X
abbrev hasW (k : Fin 3) (X : S1x1024x2048.Idx → Elt F .bf16) : sProp 𝕄 := has (c : Thread nD τ) (wbA k) fullShare X
abbrev hasM (k : Fin 4) (q : PosShare TreeShare) (X : S1x8x128.Idx → Elt F .f32) : sProp 𝕄 := has (c : Thread nD τ) (amA k) q X

/-- Part 1: the three barrier units, and the own rows of `w` on their way. -/
theorem part1 (Yw : S1024x2048.Idx → Elt F .f32) {Q : _ → sProp (MT nD τ sig Unit (Elt F) ℕ UU ℕ)} :
    iprop(records m K ∗ owing c 9 ∗ (dutyTok ER (barCell (fwd 0 c)) 0 2 ∗ dutyTok ER (barCell (fwd 1 c)) 0 1 ∗ dutyTok ER (barCell (fwd 2 c)) 0 0)
        ∗ ((∃ Y, hasC c 0 Y) ∗ (∃ Y, hasC c 1 Y) ∗ (∃ Y, hasC c 2 Y))
        ∗ ((∃ Y, hasM c 0 fullShare Y) ∗ (∃ Y, hasM c 1 fullShare Y) ∗ (∃ Y, hasM c 2 fullShare Y))
        ∗ wArg m c ∗ wfP c Yw ∗ zero c 9)
      ⊢ iprop((∀ v2 v17 v19 v21, iprop(owing c 6 ∗ wFly m c (wOwn m c)) -∗ Q ⟨c, v2, SemArray.scalar (sig.barrier 0 rfl), v17, v19, v21⟩)
          -∗ WP c (k0_part1_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  unfold k0_part1_skel
  simp only [semSignalWord, semWaitWord, Prog.lift, Prog.bind_op, Prog.bind_ret, Prog.pure_eq_ret, wp_deviceId]
  iintro ⟨#HR, HO, ⟨Ht0, Ht1, Ht2⟩, ⟨Hc0, Hc1, Hc2⟩, ⟨Ha0, Ha1, Ha2⟩, Hw, Hf, Hv⟩ Hk
  iapply (step_signal m K c 0 _ (dev1_eq c) _ rfl _ rfl 8 (by decide)) $$ [HO Ht0 Hc2 Ha2]
  · isplitr; · iexact HR
    isplitl [HO]; · iexact HO
    isplitl [Ht0]; · iexact Ht0
    isplitl [Hc2]; · iexact Hc2
    iexact Ha2
  iintro HO
  iapply (step_signal m K c 1 _ (dev2_eq c) _ rfl _ rfl 7 (by decide)) $$ [HO Ht1 Hc1 Ha1]
  · isplitr; · iexact HR
    isplitl [HO]; · iexact HO
    isplitl [Ht1]; · iexact Ht1
    isplitl [Hc1]; · iexact Hc1
    iexact Ha1
  iintro HO
  iapply (step_signal m K c 2 _ (dev3_eq c) _ rfl _ rfl 6 (by decide)) $$ [HO Ht2 Hc0 Ha0]
  · isplitr; · iexact HR
    isplitl [HO]; · iexact HO
    isplitl [Ht2]; · iexact Ht2
    isplitl [Hc0]; · iexact Hc0
    iexact Ha0
  iintro HO
  iapply (step_copy_w m c Yw) $$ [Hw Hf Hv]
  · isplitl [Hw]; · iexact Hw
    isplitl [Hf]; · iexact Hf
    iexact Hv
  iintro Hw
  iapply (WP_ret c)
  iapply Hk
  isplitl [HO]; · iexact HO
  iexact Hw

/-- Part 2: the first two row blocks of `x` on their way, the first landed and staged. -/
theorem part2 (v2 : BitVec 32) (Y0 Y1 : S1x1024x1024.Idx → Elt F .f32) (Z0 : S1x1024x1024.Idx → Elt F .bf16) {Q : _ → sProp (MT nD τ sig Unit (Elt F) ℕ UU ℕ)} :
    iprop(levAts L lv ∗ owing c 6 ∗ xArg m c fullShare.left ∗ xArg m c fullShare.right ∗ hasX c 0 Y0 ∗ hasX c 1 Y1 ∗ zero c 1 ∗ zero c 2 ∗ hasS c 0 Z0)
      ⊢ iprop((iprop(owing c 6 ∗ xArg m c fullShare.left ∗ hasX c 0 (slotOf (xPart m 0 c)) ∗ zero c 1 ∗ xFly m c fullShare.right 1 2 (xPart m 1 c) ∗ hasS c 0 (sent m 0 c)) -∗ Q ⟨⟩)
          -∗ WP c (k0_part2_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2) Q) := by
  unfold k0_part2_skel
  simp only [Prog.lift, Prog.bind_op, Prog.bind_ret, Prog.pure_eq_ret]
  iintro ⟨#HL, HO, Hx0, Hx1, Hb0, Hb1, Hv1, Hv2, Hs0⟩ Hk
  iapply (step_copy_x m c fullShare.left 0 Y0 (sem := 1)) $$ [Hx0 Hb0 Hv1]
  · isplitl [Hx0]; · iexact Hx0
    isplitl [Hb0]; · iexact Hb0
    iexact Hv1
  iintro Hx0
  iapply (step_copy_x m c fullShare.right 1 Y1 (sem := 2)) $$ [Hx1 Hb1 Hv2]
  · isplitl [Hx1]; · iexact Hx1
    isplitl [Hb1]; · iexact Hb1
    iexact Hv2
  iintro Hx1
  iapply (step_wait_x m c fullShare.left 0 (xPart m 0 c) (sem := 1) (by decide) (n := 6) (by decide)) $$ [Hx0 HO]
  · isplitr; · iexact HL
    isplitl [Hx0]; · iexact Hx0
    iexact HO
  iintro ⟨HO, Hx0, Hb0, Hv1⟩
  iapply (wp_load_has (m := xbM) (r := xbR 0) 𝒱₀ (c : Thread nD τ) none fullShare (slotOf (xPart m 0 c))) $$ Hb0
  iintro Hb0
  iapply (wp_load_has (m := stM) (r := stR 0) 𝒱₀ (c : Thread nD τ) none fullShare Z0) $$ Hs0
  iintro Hs0
  iapply (wp_store_has (m := stM) (r := stR 0) 𝒱₀ (c : Thread nD τ) none Z0) $$ Hs0
  iintro Hs0
  iapply (WP_ret c)
  iapply Hk
  isplitl [HO]; · iexact HO
  isplitl [Hx0]; · iexact Hx0
  isplitl [Hb0]; · iexact Hb0
  isplitl [Hv1]; · iexact Hv1
  isplitl [Hx1]; · iexact Hx1
  iexact Hs0

/-- Part 3: the third row block on its way, the barrier passed, the first row block sent, the second landed; the second is what is returned. -/
theorem part3 (v2 : BitVec 32) (Z1 : S1x1024x1024.Idx → Elt F .bf16) {Q : _ → sProp (MT nD τ sig Unit (Elt F) ℕ UU ℕ)} :
    iprop(records m K ∗ levAts L lv ∗ owing c 6 ∗ xArg m c fullShare.left ∗ hasX c 0 (slotOf (xPart m 0 c)) ∗ zero c 1 ∗ xFly m c fullShare.right 1 2 (xPart m 1 c)
        ∗ hasS c 0 (sent m 0 c) ∗ hasS c 1 Z1
        ∗ (cred (tallyAt (barCell c) () 3) ∗ atPos ER (barCell c) 0 ∅ 0) ∗ dutyTok ER (cell c 0 0) 0 0 ∗ dutyTok ER (cell (fwd 0 c) 1 0) 0 0)
      ⊢ iprop((iprop(owing c 5 ∗ xFly m c fullShare.left 0 1 (xPart m 2 c) ∗ xArg m c fullShare.right ∗ hasX c 1 (slotOf (xPart m 1 c)) ∗ zero c 2 ∗ hasS c 1 Z1
              ∗ atPos ER (barCell c) (0 + 1) ∅ 0 ∗ cred (tallyAt (cell c 0 0) () NX)
              ∗ ((∃ Y, hasC (fwd 1 c) 1 Y) ∗ (∃ Y, hasC (fwd 2 c) 2 Y))
              ∗ ((∃ Y, hasM (fwd 0 c) 0 fullShare Y) ∗ (∃ Y, hasM (fwd 1 c) 1 fullShare Y) ∗ (∃ Y, hasM (fwd 2 c) 2 fullShare Y))) -∗ Q (k0_pay2 (slotOf (xPart m 1 c))))
          -∗ WP c (k0_part3_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 (SemArray.scalar (sig.barrier 0 rfl))) Q) := by
  unfold k0_part3_skel
  simp only [semSignalWord, semWaitWord, Prog.lift, Prog.bind_op, Prog.bind_ret, Prog.pure_eq_ret]
  iintro ⟨#HR, #HL, HO, Hx0, Hb0, Hv1, Hx1, Hs0, Hs1, ⟨Hcr, Hat⟩, Ht, Hu⟩ Hk
  iapply (step_copy_x m c fullShare.left 0 (slotOf (xPart m 0 c)) (sem := 1)) $$ [Hx0 Hb0 Hv1]
  · isplitl [Hx0]; · iexact Hx0
    isplitl [Hb0]; · iexact Hb0
    iexact Hv1
  iintro Hx0
  iapply (step_barrier m K c _ rfl _ rfl) $$ [HO Hcr Hat]
  · isplitr; · iexact HR
    isplitr; · iexact HL
    isplitl [HO]; · iexact HO
    isplitl [Hcr]; · iexact Hcr
    iexact Hat
  unfold barPay
  iintro ⟨HO, Hat, ⟨Hc0, Ha0⟩, ⟨Hc1, Ha1⟩, ⟨Hc2, Ha2⟩⟩
  iapply (step_send_x m K c 0 _ (dev4_eq c) 5 (by decide)) $$ [Hs0 Hc0 HO Ht Hu]
  · isplitr; · iexact HR
    isplitl [Hs0]; · iexact Hs0
    isplitl [Hc0]; · iexact Hc0
    isplitl [HO]; · iexact HO
    isplitl [Ht]; · iexact Ht
    iexact Hu
  iintro ⟨Hcs, HO⟩
  iapply (step_wait_x m c fullShare.right 1 (xPart m 1 c) (sem := 2) (by decide) (n := 5) (by decide)) $$ [Hx1 HO]
  · isplitr; · iexact HL
    isplitl [Hx1]; · iexact Hx1
    iexact HO
  iintro ⟨HO, Hx1, Hb1, Hv2⟩
  iapply (wp_load_has (m := xbM) (r := xbR 1) 𝒱₀ (c : Thread nD τ) none fullShare (slotOf (xPart m 1 c))) $$ Hb1
  iintro Hb1
  iapply (wp_load_has (m := stM) (r := stR 1) 𝒱₀ (c : Thread nD τ) none fullShare Z1) $$ Hs1
  iintro Hs1
  iapply (WP_ret c)
  iapply Hk
  isplitl [HO]; · iexact HO
  isplitl [Hx0]; · iexact Hx0
  isplitl [Hx1]; · iexact Hx1
  isplitl [Hb1]; · iexact Hb1
  isplitl [Hv2]; · iexact Hv2
  isplitl [Hs1]; · iexact Hs1
  isplitl [Hat]; · iexact Hat
  isplitl [Hcs]; · iexact Hcs
  isplitl [Hc1 Hc2]
  · isplitl [Hc1]; · iexact Hc1
    iexact Hc2
  isplitl [Ha0]; · iexact Ha0
  isplitl [Ha1]; · iexact Ha1
  iexact Ha2

/-- Part 4: the second row block staged and sent, the own one on its way, the third landed. -/
theorem part4 (v2 : BitVec 32) (Z1 Z2 : S1x1024x1024.Idx → Elt F .bf16) {Q : _ → sProp (MT nD τ sig Unit (Elt F) ℕ UU ℕ)} :
    iprop(records m K ∗ levAts L lv ∗ owing c 5 ∗ xFly m c fullShare.left 0 1 (xPart m 2 c) ∗ xArg m c fullShare.right ∗ hasX c 1 (slotOf (xPart m 1 c)) ∗ zero c 2
        ∗ hasS c 1 Z1 ∗ hasS c 2 Z2 ∗ (∃ Y, hasC (fwd 1 c) 1 Y) ∗ dutyTok ER (cell c 0 1) 0 0 ∗ dutyTok ER (cell (fwd 1 c) 1 1) 0 0)
      ⊢ iprop((iprop(owing c 4 ∗ xArg m c fullShare.left ∗ hasX c 0 (slotOf (xPart m 2 c)) ∗ zero c 1 ∗ xFly m c fullShare.right 1 2 (xOwn m c) ∗ hasS c 2 Z2
              ∗ cred (tallyAt (cell c 0 1) () NX)) -∗ Q ⟨k0_pay3 (slotOf (xPart m 2 c)), Z2⟩)
          -∗ WP c (k0_part4_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 (k0_pay2 (slotOf (xPart m 1 c)))) Q) := by
  unfold k0_part4_skel
  simp only [Prog.lift, Prog.bind_op, Prog.bind_ret, Prog.pure_eq_ret]
  iintro ⟨#HR, #HL, HO, Hx0, Hx1, Hb1, Hv2, Hs1, Hs2, Hc1, Ht, Hu⟩ Hk
  iapply (wp_store_has (m := stM) (r := stR 1) 𝒱₀ (c : Thread nD τ) none Z1) $$ Hs1
  iintro Hs1
  iapply (step_copy_x m c fullShare.right 1 (slotOf (xPart m 1 c)) (sem := 2)) $$ [Hx1 Hb1 Hv2]
  · isplitl [Hx1]; · iexact Hx1
    isplitl [Hb1]; · iexact Hb1
    iexact Hv2
  iintro Hx1
  iapply (step_send_x m K c 1 _ (dev5_eq c) 4 (by decide)) $$ [Hs1 Hc1 HO Ht Hu]
  · isplitr; · iexact HR
    isplitl [Hs1]; · iexact Hs1
    isplitl [Hc1]; · iexact Hc1
    isplitl [HO]; · iexact HO
    isplitl [Ht]; · iexact Ht
    iexact Hu
  iintro ⟨Hcs, HO⟩
  iapply (step_wait_x m c fullShare.left 0 (xPart m 2 c) (sem := 1) (by decide) (n := 4) (by decide)) $$ [Hx0 HO]
  · isplitr; · iexact HL
    isplitl [Hx0]; · iexact Hx0
    iexact HO
  iintro ⟨HO, Hx0, Hb0, Hv1⟩
  iapply (wp_load_has (m := xbM) (r := xbR 0) 𝒱₀ (c : Thread nD τ) none fullShare (slotOf (xPart m 2 c))) $$ Hb0
  iintro Hb0
  iapply (wp_load_has (m := stM) (r := stR 2) 𝒱₀ (c : Thread nD τ) none fullShare Z2) $$ Hs2
  iintro Hs2
  iapply (WP_ret c)
  iapply Hk
  isplitl [HO]; · iexact HO
  isplitl [Hx0]; · iexact Hx0
  isplitl [Hb0]; · iexact Hb0
  isplitl [Hv1]; · iexact Hv1
  isplitl [Hx1]; · iexact Hx1
  isplitl [Hs2]; · iexact Hs2
  iexact Hcs

/-- Part 5: the third row block staged and sent, the own one and the own rows of `w` landed. -/
theorem part5 (v2 : BitVec 32) (Z2 Z3 V : S1x1024x1024.Idx → Elt F .bf16) {Q : _ → sProp (MT nD τ sig Unit (Elt F) ℕ UU ℕ)} :
    iprop(records m K ∗ levAts L lv ∗ owing c 4 ∗ xFly m c fullShare.right 1 2 (xOwn m c) ∗ wFly m c (wOwn m c)
        ∗ hasS c 2 Z2 ∗ hasS c 3 Z3 ∗ (∃ Y, hasC (fwd 2 c) 2 Y) ∗ dutyTok ER (cell c 0 2) 0 0 ∗ dutyTok ER (cell (fwd 2 c) 1 2) 0 0)
      ⊢ iprop((iprop(owing c 3 ∗ xArg m c fullShare.right ∗ hasX c 1 (slotOf (xOwn m c)) ∗ zero c 2 ∗ wArg m c ∗ wfP c (wOwn m c) ∗ zero c 9 ∗ hasS c 3 (kept m c)
              ∗ cred (tallyAt (cell c 0 2) () NX)) -∗ Q (k0_pay6 (wOwn m c)))
          -∗ WP c (k0_part5_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 (k0_pay3 (slotOf (xPart m 2 c))) V) Q) := by
  unfold k0_part5_skel
  simp only [Prog.lift, Prog.bind_op, Prog.bind_ret, Prog.pure_eq_ret]
  iintro ⟨#HR, #HL, HO, Hx1, Hw, Hs2, Hs3, Hc2, Ht, Hu⟩ Hk
  iapply (wp_store_has (m := stM) (r := stR 2) 𝒱₀ (c : Thread nD τ) none Z2) $$ Hs2
  iintro Hs2
  iapply (step_send_x m K c 2 _ (dev6_eq c) 3 (by decide)) $$ [Hs2 Hc2 HO Ht Hu]
  · isplitr; · iexact HR
    isplitl [Hs2]; · iexact Hs2
    isplitl [Hc2]; · iexact Hc2
    isplitl [HO]; · iexact HO
    isplitl [Ht]; · iexact Ht
    iexact Hu
  iintro ⟨Hcs, HO⟩
  iapply (step_wait_x m c fullShare.right 1 (xOwn m c) (sem := 2) (by decide) (n := 3) (by decide)) $$ [Hx1 HO]
  · isplitr; · iexact HL
    isplitl [Hx1]; · iexact Hx1
    iexact HO
  iintro ⟨HO, Hx1, Hb1, Hv2⟩
  iapply (wp_load_has (m := xbM) (r := xbR 1) 𝒱₀ (c : Thread nD τ) none fullShare (slotOf (xOwn m c))) $$ Hb1
  iintro Hb1
  iapply (wp_load_has (m := stM) (r := stR 3) 𝒱₀ (c : Thread nD τ) none fullShare Z3) $$ Hs3
  iintro Hs3
  iapply (wp_store_has (m := stM) (r := stR 3) 𝒱₀ (c : Thread nD τ) none Z3) $$ Hs3
  iintro Hs3
  iapply (step_wait_w m c (wOwn m c) (n := 3) (by decide)) $$ [Hw HO]
  · isplitr; · iexact HL
    isplitl [Hw]; · iexact Hw
    iexact HO
  iintro ⟨HO, Hw, Hf, Hv9⟩
  iapply (step_load_w c (wOwn m c)) $$ Hf
  iintro Hf
  iapply (WP_ret c)
  iapply Hk
  isplitl [HO]; · iexact HO
  isplitl [Hx1]; · iexact Hx1
  isplitl [Hb1]; · iexact Hb1
  isplitl [Hv2]; · iexact Hv2
  isplitl [Hw]; · iexact Hw
  isplitl [Hf]; · iexact Hf
  isplitl [Hv9]; · iexact Hv9
  isplitl [Hs3]; · iexact Hs3
  iexact Hcs

end Cert.KProof

end
-- ==== Proof.PartB.lean ====
/-
# Parts 6 to 9 of the body

The four products, the running sum and its maximum.
-/
module

public import proofs.«01_k».proof.Proof.PartA

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-- The credit of a landed row block, of a sent one, and of a maximum. -/
theorem credit_cm (k : Fin 3) : (cmQ k).view.dmaCredit = NX := rfl
/-- A staged block's credit, -/
theorem credit_st (k : Fin 4) : (stQ k).view.dmaCredit = NX := rfl
/-- and a tile's. -/
theorem credit_am (k : Fin 4) : (amQ k).view.dmaCredit = NA := rfl

/-- Device `c`'s buffer for the result. -/
abbrev outP (X : S1024x2048.Idx → Elt F .bf16) : sProp 𝕄 := iprop(((c : Thread nD τ).loc cc0_stg0_0) ↦{fullShare} X)

/-- A load of the whole buffer for the result; -/
theorem step_load_o {α : Type} {Q : α → sProp (MT nD τ sig Unit (Elt F) ℕ UU ℕ)} (X : S1024x2048.Idx → Elt F .bf16) {inb : ∀ a, (![0, 0] : Fin 2 → Nat) a + S1024x2048.size a ≤ S1024x2048.size a}
    {hl : (Memref.whole cc0_stg0_0 : Memref sig .tc .vmem S1024x2048 .bf16).view.LoadsAt (Rect.unit (s := S1024x2048) ![0, 0] S1024x2048.size inb).toLoadRect}
    {kk : (S1024x2048.Idx → Elt F .bf16) → Prog (TpuEff nD τ sig (Elt F) Λ₀ .tc) α} :
    (outP c X : sProp 𝕄) ⊢ iprop((outP c X -∗ WP c (kk X) Q) -∗ WP c (.op (.load (Memref.whole cc0_stg0_0) (Rect.unit (s := S1024x2048) ![0, 0] S1024x2048.size inb).toLoadRect hl) kk) Q) := by
  have e := has_unit_zero (Ix := Unit) (U := UU) (Val := Elt F) (c : Thread nD τ) cc0_stg0_0 fullShare (off := ![0, 0]) (funext fun a => by fin_cases a <;> rfl) inb X
  rw [outP, ← e]
  exact wp_load_has (m := (Memref.whole cc0_stg0_0 : Memref sig .tc .vmem S1024x2048 .bf16)) (r := Rect.unit (s := S1024x2048) ![0, 0] S1024x2048.size inb) (hl := hl) 𝒱₀ (c : Thread nD τ) none fullShare X
/-- a store of all of it. -/
theorem step_store_o {α : Type} {Q : α → sProp (MT nD τ sig Unit (Elt F) ℕ UU ℕ)} (X w : S1024x2048.Idx → Elt F .bf16) {inb : ∀ a, (![0, 0] : Fin 2 → Nat) a + S1024x2048.size a ≤ S1024x2048.size a}
    {hx : ((Memref.whole cc0_stg0_0 : Memref sig .tc .vmem S1024x2048 .bf16).access (Rect.unit (s := S1024x2048) ![0, 0] S1024x2048.size inb)).Stores Finset.univ}
    {hm : (Finset.univ : Finset (Rect.unit (s := S1024x2048) ![0, 0] S1024x2048.size inb).shape.Idx) = Finset.univ ∨ ∀ a, (Rect.unit (s := S1024x2048) ![0, 0] S1024x2048.size inb).stride a = 1}
    {kk : PUnit → Prog (TpuEff nD τ sig (Elt F) Λ₀ .tc) α} :
    (outP c X : sProp 𝕄) ⊢ iprop((outP c w -∗ WP c (kk ⟨⟩) Q)
      -∗ WP c (.op (.store (Memref.whole cc0_stg0_0) (Rect.unit (s := S1024x2048) ![0, 0] S1024x2048.size inb) w Finset.univ hx hm) kk) Q) := by
  have e := has_unit_zero (Ix := Unit) (U := UU) (Val := Elt F) (c : Thread nD τ) cc0_stg0_0 fullShare (off := ![0, 0]) (funext fun a => by fin_cases a <;> rfl) inb X
  have e' := has_unit_zero (Ix := Unit) (U := UU) (Val := Elt F) (c : Thread nD τ) cc0_stg0_0 fullShare (off := ![0, 0]) (funext fun a => by fin_cases a <;> rfl) inb w
  rw [outP, outP, ← e, ← e']
  exact wp_store_has (m := (Memref.whole cc0_stg0_0 : Memref sig .tc .vmem S1024x2048 .bf16)) (r := Rect.unit (s := S1024x2048) ![0, 0] S1024x2048.size inb) (hx := hx) (hm := hm) 𝒱₀ (c : Thread nD τ) none X

/-- Part 6: the own rows of `w` narrowed and the first product stored; the rows of the device one place back narrowed; those of the device two
    places back landed. -/
theorem part6 (v17 v19 : BitVec 32) (U0 U1 U2 : S1x1024x2048.Idx → Elt F .bf16) (O : S1024x2048.Idx → Elt F .bf16) {Q : _ → sProp (MT nD τ sig Unit (Elt F) ℕ UU ℕ)} :
    iprop(levAts L lv ∗ owing c 3 ∗ wArg m c ∗ wfP c (wOwn m c) ∗ zero c 9 ∗ hasS c 3 (kept m c) ∗ hasW c 0 U0 ∗ hasW c 1 U1 ∗ hasW c 2 U2 ∗ outP c O)
      ⊢ iprop((iprop(owing c 3 ∗ wArg m c ∗ wfP c (wPart m 1 c) ∗ zero c 9 ∗ hasS c 3 (kept m c) ∗ hasW c 0 (wb0 m c) ∗ hasW c 1 (wb1 m c) ∗ hasW c 2 U2 ∗ outP c (acc0 m c))
            -∗ Q (k0_pay10 (wPart m 1 c)))
          -∗ WP c (k0_part6_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v17 v19 (k0_pay6 (wOwn m c))) Q) := by
  unfold k0_part6_skel
  simp only [Prog.lift, Prog.bind_op, Prog.bind_ret, Prog.pure_eq_ret]
  iintro ⟨#HL, HO, Hw, Hf, Hv, Hs, Hw0, Hw1, Hw2, Ho⟩ Hk
  iapply (wp_load_has (m := wbM) (r := wbR 0) 𝒱₀ (c : Thread nD τ) none fullShare U0) $$ Hw0
  iintro Hw0
  iapply (wp_store_has (m := wbM) (r := wbR 0) 𝒱₀ (c : Thread nD τ) none U0) $$ Hw0
  iintro Hw0
  ihave Hw0 := (show (hasW c 0 (k0_pay7 (k0_pay6 (wOwn m c))) : sProp 𝕄) ⊢ hasW c 0 (wb0 m c) from .rfl) $$ Hw0
  iapply (step_copy_w m c (wOwn m c)) $$ [Hw Hf Hv]
  · isplitl [Hw]; · iexact Hw
    isplitl [Hf]; · iexact Hf
    iexact Hv
  iintro Hw
  iapply (wp_load_has (m := stM) (r := stR 3) 𝒱₀ (c : Thread nD τ) none fullShare (kept m c)) $$ Hs
  iintro Hs
  iapply (wp_load_has (m := wbM) (r := wbR 0) 𝒱₀ (c : Thread nD τ) none fullShare (wb0 m c)) $$ Hw0
  iintro Hw0
  iapply (step_load_o c O) $$ Ho
  iintro Ho
  iapply (step_store_o c O (acc0 m c)) $$ Ho
  iintro Ho
  iapply (step_wait_w m c (wPart m 2 c) (n := 3) (by decide)) $$ [Hw HO]
  · isplitr; · iexact HL
    isplitl [Hw]; · iexact Hw
    iexact HO
  iintro ⟨HO, Hw, Hf, Hv⟩
  iapply (step_load_w c (wPart m 2 c)) $$ Hf
  iintro Hf
  iapply (wp_load_has (m := wbM) (r := wbR 1) 𝒱₀ (c : Thread nD τ) none fullShare U1) $$ Hw1
  iintro Hw1
  iapply (wp_store_has (m := wbM) (r := wbR 1) 𝒱₀ (c : Thread nD τ) none U1) $$ Hw1
  iintro Hw1
  iapply (step_copy_w m c (wPart m 2 c)) $$ [Hw Hf Hv]
  · isplitl [Hw]; · iexact Hw
    isplitl [Hf]; · iexact Hf
    iexact Hv
  iintro Hw
  iapply (step_wait_w m c (wPart m 1 c) (n := 3) (by decide)) $$ [Hw HO]
  · isplitr; · iexact HL
    isplitl [Hw]; · iexact Hw
    iexact HO
  iintro ⟨HO, Hw, Hf, Hv⟩
  iapply (step_load_w c (wPart m 1 c)) $$ Hf
  iintro Hf
  iapply (wp_load_has (m := wbM) (r := wbR 2) 𝒱₀ (c : Thread nD τ) none fullShare U2) $$ Hw2
  iintro Hw2
  iapply (WP_ret c)
  iapply Hk
  isplitl [HO]; · iexact HO
  isplitl [Hw]; · iexact Hw
  isplitl [Hf]; · iexact Hf
  isplitl [Hv]; · iexact Hv
  isplitl [Hs]; · iexact Hs
  isplitl [Hw0]; · iexact Hw0
  isplitl [Hw1]; · iexact Hw1
  isplitl [Hw2]; · iexact Hw2
  iexact Ho

/-- Part 7: the remaining rows of `w` narrowed, and the first exchanged row block landed: the second running sum is what is returned. -/
theorem part7 (v2 v21 : BitVec 32) (U2 : S1x1024x2048.Idx → Elt F .bf16) {Q : _ → sProp (MT nD τ sig Unit (Elt F) ℕ UU ℕ)} :
    iprop(records m K ∗ levAts L lv ∗ owing c 3 ∗ wArg m c ∗ wfP c (wPart m 1 c) ∗ zero c 9 ∗ hasW c 0 (wb0 m c) ∗ hasW c 1 (wb1 m c) ∗ hasW c 2 U2 ∗ outP c (acc0 m c)
        ∗ cred (tallyAt (cell c 1 0) () NX) ∗ atPos ER (cell c 1 0) 0 ∅ 0)
      ⊢ iprop((iprop(owing c 3 ∗ wArg m c ∗ wfP c (wPart m 0 c) ∗ zero c 9 ∗ hasW c 0 (wb3 m c) ∗ hasW c 1 (wb1 m c) ∗ hasW c 2 (wb2 m c) ∗ outP c (acc0 m c)
              ∗ atPos ER (cell c 1 0) (0 + 1) ∅ 0 ∗ hasC c 0 (sent m 0 (bwd 0 c))) -∗ Q (acc1 m c))
          -∗ WP c (k0_part7_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v21 (k0_pay10 (wPart m 1 c))) Q) := by
  unfold k0_part7_skel
  simp only [Prog.lift, Prog.bind_op, Prog.bind_ret, Prog.pure_eq_ret]
  iintro ⟨#HR, #HL, HO, Hw, Hf, Hv, Hw0, Hw1, Hw2, Ho, Hc, Hat⟩ Hk
  iapply (wp_store_has (m := wbM) (r := wbR 2) 𝒱₀ (c : Thread nD τ) none U2) $$ Hw2
  iintro Hw2
  iapply (step_copy_w m c (wPart m 1 c)) $$ [Hw Hf Hv]
  · isplitl [Hw]; · iexact Hw
    isplitl [Hf]; · iexact Hf
    iexact Hv
  iintro Hw
  iapply (step_wait_w m c (wPart m 0 c) (n := 3) (by decide)) $$ [Hw HO]
  · isplitr; · iexact HL
    isplitl [Hw]; · iexact Hw
    iexact HO
  iintro ⟨HO, Hw, Hf, Hv⟩
  iapply (step_load_w c (wPart m 0 c)) $$ Hf
  iintro Hf
  iapply (wp_load_has (m := wbM) (r := wbR 0) 𝒱₀ (c : Thread nD τ) none fullShare (wb0 m c)) $$ Hw0
  iintro Hw0
  iapply (wp_store_has (m := wbM) (r := wbR 0) 𝒱₀ (c : Thread nD τ) none (wb0 m c)) $$ Hw0
  iintro Hw0
  iapply (step_wait_recv m K c 0 _ rfl (dstw := cmQ 0) (credit_cm 0)) $$ [HO Hc Hat]
  · isplitr; · iexact HR
    isplitr; · iexact HL
    isplitl [HO]; · iexact HO
    isplitl [Hc]; · iexact Hc
    iexact Hat
  iintro ⟨HO, Hat, Hc⟩
  iapply (wp_load_has (m := cmM) (r := cmR 0) 𝒱₀ (c : Thread nD τ) none fullShare (sent m 0 (bwd 0 c))) $$ Hc
  iintro Hc
  iapply (wp_load_has (m := wbM) (r := wbR 1) 𝒱₀ (c : Thread nD τ) none fullShare (wb1 m c)) $$ Hw1
  iintro Hw1
  iapply (step_load_o c (acc0 m c)) $$ Ho
  iintro Ho
  iapply (WP_ret c)
  iapply (show Q (acc1 m c) ⊢ Q (k0_pay12 (sent m 0 (bwd 0 c)) (wb1 m c) (acc0 m c)) from .rfl)
  iapply Hk
  isplitl [HO]; · iexact HO
  isplitl [Hw]; · iexact Hw
  isplitl [Hf]; · iexact Hf
  isplitl [Hv]; · iexact Hv
  isplitl [Hw0]; · iexact Hw0
  isplitl [Hw1]; · iexact Hw1
  isplitl [Hw2]; · iexact Hw2
  isplitl [Ho]; · iexact Ho
  isplitl [Hat]; · iexact Hat
  iexact Hc

/-- Part 8: the second running sum stored, the second exchanged row block landed, the third running sum stored. -/
theorem part8 (v2 : BitVec 32) {Q : _ → sProp (MT nD τ sig Unit (Elt F) ℕ UU ℕ)} :
    iprop(records m K ∗ levAts L lv ∗ owing c 3 ∗ hasW c 2 (wb2 m c) ∗ outP c (acc0 m c)
        ∗ cred (tallyAt (cell c 1 1) () NX) ∗ atPos ER (cell c 1 1) 0 ∅ 0)
      ⊢ iprop((iprop(owing c 3 ∗ hasW c 2 (wb2 m c) ∗ outP c (acc2 m c) ∗ atPos ER (cell c 1 1) (0 + 1) ∅ 0 ∗ hasC c 1 (sent m 1 (bwd 1 c))) -∗ Q ⟨⟩)
          -∗ WP c (k0_part8_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v2 (acc1 m c)) Q) := by
  unfold k0_part8_skel
  simp only [Prog.lift, Prog.bind_op, Prog.bind_ret, Prog.pure_eq_ret]
  iintro ⟨#HR, #HL, HO, Hw2, Ho, Hc, Hat⟩ Hk
  iapply (step_load_o c (acc0 m c)) $$ Ho
  iintro Ho
  iapply (step_store_o c (acc0 m c) (acc1 m c)) $$ Ho
  iintro Ho
  iapply (step_wait_recv m K c 1 _ rfl (dstw := cmQ 1) (credit_cm 1)) $$ [HO Hc Hat]
  · isplitr; · iexact HR
    isplitr; · iexact HL
    isplitl [HO]; · iexact HO
    isplitl [Hc]; · iexact Hc
    iexact Hat
  iintro ⟨HO, Hat, Hc⟩
  iapply (wp_load_has (m := cmM) (r := cmR 1) 𝒱₀ (c : Thread nD τ) none fullShare (sent m 1 (bwd 1 c))) $$ Hc
  iintro Hc
  iapply (wp_load_has (m := wbM) (r := wbR 2) 𝒱₀ (c : Thread nD τ) none fullShare (wb2 m c)) $$ Hw2
  iintro Hw2
  iapply (step_load_o c (acc1 m c)) $$ Ho
  iintro Ho
  iapply (step_load_o c (acc1 m c)) $$ Ho
  iintro Ho
  iapply (step_store_o c (acc1 m c) (acc2 m c)) $$ Ho
  iintro Ho
  iapply (WP_ret c)
  iapply Hk
  isplitl [HO]; · iexact HO
  isplitl [Hw2]; · iexact Hw2
  isplitl [Ho]; · iexact Ho
  isplitl [Hat]; · iexact Hat
  iexact Hc

/-- Part 9: the third exchanged row block landed, the whole sum stored, and its maximum in the own slot of the buffer of maxima. -/
theorem part9 (v2 : BitVec 32) (Y3 : S1x8x128.Idx → Elt F .f32) {Q : _ → sProp (MT nD τ sig Unit (Elt F) ℕ UU ℕ)} :
    iprop(records m K ∗ levAts L lv ∗ owing c 3 ∗ hasW c 0 (wb3 m c) ∗ outP c (acc2 m c)
        ∗ cred (tallyAt (cell c 1 2) () NX) ∗ atPos ER (cell c 1 2) 0 ∅ 0 ∗ hasM c 3 fullShare Y3)
      ⊢ iprop((iprop(owing c 3 ∗ hasW c 0 (wb3 m c) ∗ outP c (acc3 m c) ∗ atPos ER (cell c 1 2) (0 + 1) ∅ 0 ∗ hasC c 2 (sent m 2 (bwd 2 c))
              ∗ hasM c 3 fullShare (amx m c)) -∗ Q ⟨⟩)
          -∗ WP c (k0_part9_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v2) Q) := by
  unfold k0_part9_skel
  simp only [Prog.lift, Prog.bind_op, Prog.bind_ret, Prog.pure_eq_ret]
  iintro ⟨#HR, #HL, HO, Hw0, Ho, Hc, Hat, Ha⟩ Hk
  iapply (step_wait_recv m K c 2 _ rfl (dstw := cmQ 2) (credit_cm 2)) $$ [HO Hc Hat]
  · isplitr; · iexact HR
    isplitr; · iexact HL
    isplitl [HO]; · iexact HO
    isplitl [Hc]; · iexact Hc
    iexact Hat
  iintro ⟨HO, Hat, Hc⟩
  iapply (wp_load_has (m := cmM) (r := cmR 2) 𝒱₀ (c : Thread nD τ) none fullShare (sent m 2 (bwd 2 c))) $$ Hc
  iintro Hc
  iapply (wp_load_has (m := wbM) (r := wbR 0) 𝒱₀ (c : Thread nD τ) none fullShare (wb3 m c)) $$ Hw0
  iintro Hw0
  iapply (step_load_o c (acc2 m c)) $$ Ho
  iintro Ho
  iapply (step_load_o c (acc2 m c)) $$ Ho
  iintro Ho
  iapply (step_store_o c (acc2 m c) (acc3 m c)) $$ Ho
  iintro Ho
  iapply (step_load_o c (acc3 m c)) $$ Ho
  iintro Ho
  iapply (wp_load_has (m := amM) (r := amR 3) 𝒱₀ (c : Thread nD τ) none fullShare Y3) $$ Ha
  iintro Ha
  iapply (wp_store_has (m := amM) (r := amR 3) 𝒱₀ (c : Thread nD τ) none Y3) $$ Ha
  iintro Ha
  iapply (WP_ret c)
  iapply Hk
  isplitl [HO]; · iexact HO
  isplitl [Hw0]; · iexact Hw0
  isplitl [Ho]; · iexact Ho
  isplitl [Hat]; · iexact Hat
  isplitl [Hc]; · iexact Hc
  iexact Ha

end Cert.KProof

end
-- ==== Proof.PartC.lean ====
/-
# Parts 10 to 13 of the body

The maxima exchanged, the quantised rows, and the sends done.
-/
module

public import proofs.«01_k».proof.Proof.PartB

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-- A slot of maxima held in full is the three shares lent and the one kept, -/
theorem am_quarter (k : Fin 4) (X : S1x8x128.Idx → Elt F .f32) :
    (hasM c k fullShare X : sProp 𝕄) ⊢ iprop(hasM c k (lent 0) X ∗ hasM c k (lent 1) X ∗ hasM c k (lent 2) X ∗ hasM c k keptShare X) :=
  (has_halve (c : Thread nD τ) (amA k) fullShare X).trans (sep_mono .rfl
    ((has_halve (c : Thread nD τ) (amA k) fullShare.right X).trans (sep_mono .rfl (has_halve (c : Thread nD τ) (amA k) fullShare.right.right X))))
/-- and back. -/
theorem am_whole (k : Fin 4) (X : S1x8x128.Idx → Elt F .f32) :
    (iprop(hasM c k (lent 0) X ∗ hasM c k (lent 1) X ∗ hasM c k (lent 2) X ∗ hasM c k keptShare X) : sProp 𝕄) ⊢ hasM c k fullShare X :=
  (sep_mono .rfl ((sep_mono .rfl (has_unhalve (c : Thread nD τ) (amA k) fullShare.right.right X)).trans
    (has_unhalve (c : Thread nD τ) (amA k) fullShare.right X))).trans (has_unhalve (c : Thread nD τ) (amA k) fullShare X)

/-- A separating conjunction over four slots, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The four maxima in their slots are the whole buffer holding them, -/
theorem am_gather (q : PosShare TreeShare) :
    (iprop(hasM c 0 q (amx m (bwd 0 c)) ∗ hasM c 1 q (amx m (bwd 1 c)) ∗ hasM c 2 q (amx m (bwd 2 c)) ∗ hasM c 3 q (amx m c)) : sProp 𝕄)
      ⊢ iprop(((c : Thread nD τ).loc cc0_scratch5) ↦{q} amAll m c) := by
  have h := has_of_blocks (Ix := Unit) (U := UU) (c : Thread nD τ) amM q (fun k : Fin 4 => amx m (src k c))
  rw [bigSep_four] at h
  exact h.trans (Entails.of_eq (has_whole (c : Thread nD τ) cc0_scratch5 q (amAll m c)))
/-- and back. -/
theorem am_ungather (q : PosShare TreeShare) :
    (iprop(((c : Thread nD τ).loc cc0_scratch5) ↦{q} amAll m c) : sProp 𝕄)
      ⊢ iprop(hasM c 0 q (amx m (bwd 0 c)) ∗ hasM c 1 q (amx m (bwd 1 c)) ∗ hasM c 2 q (amx m (bwd 2 c)) ∗ hasM c 3 q (amx m c)) := by
  have h := has_blocks (Ix := Unit) (U := UU) (c : Thread nD τ) amM q (amAll m c)
  have e : ∀ k : Fin 4, (fun j => amAll m c ((slR k).emb j)) = amx m (src k c) := fun k => funext fun j => gather_emb (fun k : Fin 4 => amx m (src k c)) k j
  simp only [e] at h
  rw [bigSep_four] at h
  exact (Entails.of_eq (has_whole (c : Thread nD τ) cc0_scratch5 q (amAll m c)).symm).trans h

/-- A load of the whole buffer of maxima, held at a share. -/
theorem step_load_a {α : Type} {Q : α → sProp (MT nD τ sig Unit (Elt F) ℕ UU ℕ)} (q : PosShare TreeShare) (X : S4x8x128.Idx → Elt F .f32)
    {inb : ∀ a, (![0, 0, 0] : Fin 3 → Nat) a + S4x8x128.size a ≤ S4x8x128.size a}
    {hl : amM.view.LoadsAt (Rect.unit (s := S4x8x128) ![0, 0, 0] S4x8x128.size inb).toLoadRect}
    {kk : (S4x8x128.Idx → Elt F .f32) → Prog (TpuEff nD τ sig (Elt F) Λ₀ .tc) α} :
    (iprop(((c : Thread nD τ).loc cc0_scratch5) ↦{q} X) : sProp 𝕄)
      ⊢ iprop((iprop(((c : Thread nD τ).loc cc0_scratch5) ↦{q} X) -∗ WP c (kk X) Q) -∗ WP c (.op (.load amM (Rect.unit (s := S4x8x128) ![0, 0, 0] S4x8x128.size inb).toLoadRect hl) kk) Q) := by
  have e := has_unit_zero (Ix := Unit) (U := UU) (Val := Elt F) (c : Thread nD τ) cc0_scratch5 q (off := ![0, 0, 0]) (funext fun a => by fin_cases a <;> rfl) inb X
  rw [← e]
  exact wp_load_has (m := amM) (r := Rect.unit (s := S4x8x128) ![0, 0, 0] S4x8x128.size inb) (hl := hl) 𝒱₀ (c : Thread nD τ) none q X

/-- Part 10: the own maximum sent one and two places further. -/
theorem part10 (v2 : BitVec 32) {Q : _ → sProp (MT nD τ sig Unit (Elt F) ℕ UU ℕ)} :
    iprop(records m K ∗ owing c 3 ∗ hasM c 3 (lent 0) (amx m c) ∗ hasM c 3 (lent 1) (amx m c)
        ∗ (∃ Y, hasM (fwd 0 c) 0 fullShare Y) ∗ (∃ Y, hasM (fwd 1 c) 1 fullShare Y)
        ∗ (dutyTok ER (cell c 2 0) 0 0 ∗ dutyTok ER (cell (fwd 0 c) 3 0) 0 0) ∗ dutyTok ER (cell c 2 1) 0 0 ∗ dutyTok ER (cell (fwd 1 c) 3 1) 0 0)
      ⊢ iprop((iprop(owing c 1 ∗ cred (tallyAt (cell c 2 0) () NA) ∗ cred (tallyAt (cell c 2 1) () NA)) -∗ Q ⟨⟩)
          -∗ WP c (k0_part10_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2) Q) := by
  unfold k0_part10_skel
  simp only [Prog.lift, Prog.bind_op, Prog.bind_ret, Prog.pure_eq_ret]
  iintro ⟨#HR, HO, Hs0, Hs1, Hd0, Hd1, ⟨Ht0, Hu0⟩, Ht1, Hu1⟩ Hk
  iapply (step_send_a m K c 0 _ (dev7_eq c) 2 (by decide)) $$ [Hs0 Hd0 HO Ht0 Hu0]
  · isplitr; · iexact HR
    isplitl [Hs0]; · iexact Hs0
    isplitl [Hd0]; · iexact Hd0
    isplitl [HO]; · iexact HO
    isplitl [Ht0]; · iexact Ht0
    iexact Hu0
  iintro ⟨Hc0, HO⟩
  iapply (step_send_a m K c 1 _ (dev8_eq c) 1 (by decide)) $$ [Hs1 Hd1 HO Ht1 Hu1]
  · isplitr; · iexact HR
    isplitl [Hs1]; · iexact Hs1
    isplitl [Hd1]; · iexact Hd1
    isplitl [HO]; · iexact HO
    isplitl [Ht1]; · iexact Ht1
    iexact Hu1
  iintro ⟨Hc1, HO⟩
  iapply (WP_ret c)
  iapply Hk
  isplitl [HO]; · iexact HO
  isplitl [Hc0]; · iexact Hc0
  iexact Hc1

/-- Part 11: the own maximum sent three places further, and the three others landed. -/
theorem part11 (v2 : BitVec 32) {Q : _ → sProp (MT nD τ sig Unit (Elt F) ℕ UU ℕ)} :
    iprop(records m K ∗ levAts L lv ∗ owing c 1 ∗ hasM c 3 (lent 2) (amx m c) ∗ (∃ Y, hasM (fwd 2 c) 2 fullShare Y)
        ∗ (dutyTok ER (cell c 2 2) 0 0 ∗ dutyTok ER (cell (fwd 2 c) 3 2) 0 0)
        ∗ (cred (tallyAt (cell c 3 0) () NA) ∗ atPos ER (cell c 3 0) 0 ∅ 0) ∗ (cred (tallyAt (cell c 3 1) () NA) ∗ atPos ER (cell c 3 1) 0 ∅ 0)
        ∗ cred (tallyAt (cell c 3 2) () NA) ∗ atPos ER (cell c 3 2) 0 ∅ 0)
      ⊢ iprop((iprop(owing c 0 ∗ cred (tallyAt (cell c 2 2) () NA)
              ∗ (atPos ER (cell c 3 0) (0 + 1) ∅ 0 ∗ atPos ER (cell c 3 1) (0 + 1) ∅ 0 ∗ atPos ER (cell c 3 2) (0 + 1) ∅ 0)
              ∗ hasM c 0 fullShare (amx m (bwd 0 c)) ∗ hasM c 1 fullShare (amx m (bwd 1 c)) ∗ hasM c 2 fullShare (amx m (bwd 2 c))) -∗ Q ⟨⟩)
          -∗ WP c (k0_part11_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2) Q) := by
  unfold k0_part11_skel
  simp only [Prog.lift, Prog.bind_op, Prog.bind_ret, Prog.pure_eq_ret]
  iintro ⟨#HR, #HL, HO, Hs2, Hd2, ⟨Ht2, Hu2⟩, ⟨Hc0, Ha0⟩, ⟨Hc1, Ha1⟩, Hc2, Ha2⟩ Hk
  iapply (step_send_a m K c 2 _ (dev9_eq c) 0 (by decide)) $$ [Hs2 Hd2 HO Ht2 Hu2]
  · isplitr; · iexact HR
    isplitl [Hs2]; · iexact Hs2
    isplitl [Hd2]; · iexact Hd2
    isplitl [HO]; · iexact HO
    isplitl [Ht2]; · iexact Ht2
    iexact Hu2
  iintro ⟨Hc, HO⟩
  iapply (step_wait_arecv m K c 0 _ rfl (dstw := amQ 0) (credit_am 0)) $$ [HO Hc0 Ha0]
  · isplitr; · iexact HR
    isplitr; · iexact HL
    isplitl [HO]; · iexact HO
    isplitl [Hc0]; · iexact Hc0
    iexact Ha0
  iintro ⟨HO, Ha0, Hm0⟩
  iapply (step_wait_arecv m K c 1 _ rfl (dstw := amQ 1) (credit_am 1)) $$ [HO Hc1 Ha1]
  · isplitr; · iexact HR
    isplitr; · iexact HL
    isplitl [HO]; · iexact HO
    isplitl [Hc1]; · iexact Hc1
    iexact Ha1
  iintro ⟨HO, Ha1, Hm1⟩
  iapply (step_wait_arecv m K c 2 _ rfl (dstw := amQ 2) (credit_am 2)) $$ [HO Hc2 Ha2]
  · isplitr; · iexact HR
    isplitr; · iexact HL
    isplitl [HO]; · iexact HO
    isplitl [Hc2]; · iexact Hc2
    iexact Ha2
  iintro ⟨HO, Ha2, Hm2⟩
  iapply (WP_ret c)
  iapply Hk
  isplitl [HO]; · iexact HO
  isplitl [Hc]; · iexact Hc
  isplitl [Ha0 Ha1 Ha2]
  · isplitl [Ha0]; · iexact Ha0
    isplitl [Ha1]; · iexact Ha1
    iexact Ha2
  isplitl [Hm0]; · iexact Hm0
  isplitl [Hm1]; · iexact Hm1
  iexact Hm2

/-- Part 12: the rows quantised at the largest of the four maxima, and the first row block's send done. -/
theorem part12 {Q : _ → sProp (MT nD τ sig Unit (Elt F) ℕ UU ℕ)} :
    iprop(records m K ∗ levAts L lv ∗ owing c 0 ∗ outP c (acc3 m c)
        ∗ (hasM c 0 fullShare (amx m (bwd 0 c)) ∗ hasM c 1 fullShare (amx m (bwd 1 c)) ∗ hasM c 2 fullShare (amx m (bwd 2 c))) ∗ hasM c 3 keptShare (amx m c)
        ∗ cred (tallyAt (cell c 0 0) () NX) ∗ atPos ER (cell c 0 0) 0 ∅ 0)
      ⊢ iprop((iprop(owing c 0 ∗ outP c (outAt m c)
              ∗ (hasM c 0 fullShare (amx m (bwd 0 c)) ∗ hasM c 1 fullShare (amx m (bwd 1 c)) ∗ hasM c 2 fullShare (amx m (bwd 2 c))) ∗ hasM c 3 keptShare (amx m c)
              ∗ atPos ER (cell c 0 0) (0 + 1) ∅ 0 ∗ hasS c 0 (sent m 0 c)) -∗ Q ⟨⟩)
          -∗ WP c (k0_part12_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  unfold k0_part12_skel
  simp only [Prog.lift, Prog.bind_op, Prog.bind_ret, Prog.pure_eq_ret]
  iintro ⟨#HR, #HL, HO, Ho, ⟨Hm0, Hm1, Hm2⟩, Hm3, Hc, Ha⟩ Hk
  ihave Hm0 := (am_quarter c 0 (amx m (bwd 0 c))) $$ Hm0
  ihave Hm1 := (am_quarter c 1 (amx m (bwd 1 c))) $$ Hm1
  ihave Hm2 := (am_quarter c 2 (amx m (bwd 2 c))) $$ Hm2
  icases Hm0 with ⟨Ha00, Ha01, Ha02, Hm0⟩
  icases Hm1 with ⟨Ha10, Ha11, Ha12, Hm1⟩
  icases Hm2 with ⟨Ha20, Ha21, Ha22, Hm2⟩
  ihave Hall := (am_gather m c keptShare) $$ [Hm0 Hm1 Hm2 Hm3]
  · isplitl [Hm0]; · iexact Hm0
    isplitl [Hm1]; · iexact Hm1
    isplitl [Hm2]; · iexact Hm2
    iexact Hm3
  iapply (step_load_a c keptShare (amAll m c)) $$ Hall
  iintro Hall
  ihave Hall := (am_ungather m c keptShare) $$ Hall
  icases Hall with ⟨Hm0, Hm1, Hm2, Hm3⟩
  iapply (step_load_o c (acc3 m c)) $$ Ho
  iintro Ho
  iapply (step_load_o c (acc3 m c)) $$ Ho
  iintro Ho
  iapply (step_store_o c (acc3 m c) (outAt m c)) $$ Ho
  iintro Ho
  iapply (step_wait_send m K c 0 _ rfl (dstw := stQ 0) (credit_st 0)) $$ [HO Hc Ha]
  · isplitr; · iexact HR
    isplitr; · iexact HL
    isplitl [HO]; · iexact HO
    isplitl [Hc]; · iexact Hc
    iexact Ha
  iintro ⟨HO, Ha, Hs⟩
  iapply (WP_ret c)
  iapply Hk
  isplitl [HO]; · iexact HO
  isplitl [Ho]; · iexact Ho
  isplitl [Hm0 Hm1 Hm2 Ha00 Ha01 Ha02 Ha10 Ha11 Ha12 Ha20 Ha21 Ha22]
  · isplitl [Hm0 Ha00 Ha01 Ha02]
    · iapply (am_whole c 0 (amx m (bwd 0 c)))
      isplitl [Ha00]; · iexact Ha00
      isplitl [Ha01]; · iexact Ha01
      isplitl [Ha02]; · iexact Ha02
      iexact Hm0
    isplitl [Hm1 Ha10 Ha11 Ha12]
    · iapply (am_whole c 1 (amx m (bwd 1 c)))
      isplitl [Ha10]; · iexact Ha10
      isplitl [Ha11]; · iexact Ha11
      isplitl [Ha12]; · iexact Ha12
      iexact Hm1
    · iapply (am_whole c 2 (amx m (bwd 2 c)))
      isplitl [Ha20]; · iexact Ha20
      isplitl [Ha21]; · iexact Ha21
      isplitl [Ha22]; · iexact Ha22
      iexact Hm2
  isplitl [Hm3]; · iexact Hm3
  isplitl [Ha]; · iexact Ha
  iexact Hs

/-- Part 13: the other two row blocks' sends and two of the maxima's done. -/
theorem part13 {Q : _ → sProp (MT nD τ sig Unit (Elt F) ℕ UU ℕ)} :
    iprop(records m K ∗ levAts L lv ∗ owing c 0
        ∗ (cred (tallyAt (cell c 0 1) () NX) ∗ atPos ER (cell c 0 1) 0 ∅ 0) ∗ (cred (tallyAt (cell c 0 2) () NX) ∗ atPos ER (cell c 0 2) 0 ∅ 0)
        ∗ (cred (tallyAt (cell c 2 0) () NA) ∗ atPos ER (cell c 2 0) 0 ∅ 0) ∗ cred (tallyAt (cell c 2 1) () NA) ∗ atPos ER (cell c 2 1) 0 ∅ 0)
      ⊢ iprop((iprop(owing c 0
              ∗ (atPos ER (cell c 0 1) (0 + 1) ∅ 0 ∗ atPos ER (cell c 0 2) (0 + 1) ∅ 0 ∗ atPos ER (cell c 2 0) (0 + 1) ∅ 0 ∗ atPos ER (cell c 2 1) (0 + 1) ∅ 0)
              ∗ hasS c 1 (sent m 1 c) ∗ hasS c 2 (sent m 2 c) ∗ hasM c 3 (lent 0) (amx m c) ∗ hasM c 3 (lent 1) (amx m c)) -∗ Q ⟨⟩)
          -∗ WP c (k0_part13_skel (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  unfold k0_part13_skel
  simp only [Prog.lift, Prog.bind_op, Prog.bind_ret, Prog.pure_eq_ret]
  iintro ⟨#HR, #HL, HO, ⟨Hc1, Ha1⟩, ⟨Hc2, Ha2⟩, ⟨Hd0, Hb0⟩, Hd1, Hb1⟩ Hk
  iapply (step_wait_send m K c 1 _ rfl (dstw := stQ 1) (credit_st 1)) $$ [HO Hc1 Ha1]
  · isplitr; · iexact HR
    isplitr; · iexact HL
    isplitl [HO]; · iexact HO
    isplitl [Hc1]; · iexact Hc1
    iexact Ha1
  iintro ⟨HO, Ha1, Hs1⟩
  iapply (step_wait_send m K c 2 _ rfl (dstw := stQ 2) (credit_st 2)) $$ [HO Hc2 Ha2]
  · isplitr; · iexact HR
    isplitr; · iexact HL
    isplitl [HO]; · iexact HO
    isplitl [Hc2]; · iexact Hc2
    iexact Ha2
  iintro ⟨HO, Ha2, Hs2⟩
  iapply (step_wait_asend m K c 0 _ rfl (dstw := amQ 3) (credit_am 3)) $$ [HO Hd0 Hb0]
  · isplitr; · iexact HR
    isplitr; · iexact HL
    isplitl [HO]; · iexact HO
    isplitl [Hd0]; · iexact Hd0
    iexact Hb0
  iintro ⟨HO, Hb0, Hm0⟩
  iapply (step_wait_asend m K c 1 _ rfl (dstw := amQ 3) (credit_am 3)) $$ [HO Hd1 Hb1]
  · isplitr; · iexact HR
    isplitr; · iexact HL
    isplitl [HO]; · iexact HO
    isplitl [Hd1]; · iexact Hd1
    iexact Hb1
  iintro ⟨HO, Hb1, Hm1⟩
  iapply (WP_ret c)
  iapply Hk
  isplitl [HO]; · iexact HO
  isplitl [Ha1 Ha2 Hb0 Hb1]
  · isplitl [Ha1]; · iexact Ha1
    isplitl [Ha2]; · iexact Ha2
    isplitl [Hb0]; · iexact Hb0
    iexact Hb1
  isplitl [Hs1]; · iexact Hs1
  isplitl [Hs2]; · iexact Hs2
  isplitl [Hm0]; · iexact Hm0
  iexact Hm1

end Cert.KProof

end
-- ==== Proof.Body.lean ====
/-
# The body

What a device holds when the kernel starts, its run through the thirteen parts, and what it holds when the kernel ends.
-/
module

public import proofs.«01_k».proof.Proof.PartC

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × Cl → ℕ) (c : Dev nD)

/-! ## Buffers and their slots -/

section Slots

variable {sp : Space} {n a b : ℕ} {e : EltTy} (M : Memref sig .tc sp ⟨3, ![n, a, b]⟩ e)

/-- A buffer held in full is each slot of it held in full, -/
theorem slots_out : (iprop(∃ X, has (c : Thread nD τ) M.view fullShare X) : sProp 𝕄)
    ⊢ bigSep Finset.univ fun k : Fin n => iprop(∃ Y, has (c : Thread nD τ) (M.access (slR k)) fullShare Y) := by
  have h : ∀ X : (⟨3, ![n, a, b]⟩ : Shape).Idx → Elt F e, ∀ k ∈ (Finset.univ : Finset (Fin n)), (has (c : Thread nD τ) (M.access (slR k)) fullShare (fun j => X ((slR k).emb j)) : sProp 𝕄)
      ⊢ iprop(∃ Y, has (c : Thread nD τ) (M.access (slR k)) fullShare Y) := fun X k _ => by
    iintro H; iexists (fun j => X ((slR k).emb j)); iexact H
  iintro ⟨%X, H⟩
  iapply ((has_blocks (Ix := Unit) (U := UU) (c : Thread nD τ) M fullShare X).trans (bigSep_mono (h X)))
  iexact H
/-- and back. -/
theorem slots_in : (bigSep Finset.univ fun k : Fin n => (iprop(∃ Y, has (c : Thread nD τ) (M.access (slR k)) fullShare Y) : sProp 𝕄))
    ⊢ iprop(∃ X, has (c : Thread nD τ) M.view fullShare X) := by
  refine (BI.bigSep_exists_pi Finset.univ (fun (k : Fin n) (Y : (⟨3, ![1, a, b]⟩ : Shape).Idx → Elt F e) => (has (c : Thread nD τ) (M.access (slR k)) fullShare Y : sProp 𝕄))).trans ?_
  iintro ⟨%Y, H⟩
  iexists (gather Y)
  iapply (has_of_blocks (Ix := Unit) (U := UU) (c : Thread nD τ) M fullShare Y)
  iexact H

end Slots

/-- Device `c`'s buffer `b` held in full, at some contents. -/
abbrev some_ (b : Ref sig .tc) : sProp 𝕄 := iprop(∃ f : Buf (Elt F) ((c : Thread nD τ).loc b), ((c : Thread nD τ).loc b) ↦{fullShare} f)

/-- A buffer held with some contents, said of the view of the whole buffer. -/
theorem some_eq (b : Ref sig .tc) : (some_ c b : sProp 𝕄) = iprop(∃ X, has (c : Thread nD τ) (View.whole b) fullShare X) := by
  unfold some_
  congr 1; funext X
  exact (has_whole (c : Thread nD τ) b fullShare X).symm

/-- A separating conjunction over two slots, written out; -/
theorem bigSep_two (Φ : Fin 2 → sProp 𝕄) : bigSep Finset.univ Φ = iprop(Φ 0 ∗ Φ 1) :=
  bigSep_univ_eq_bigSepL [0, 1] (by decide) (by decide) Φ
/-- and one over three. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- Each buffer of slots is taken apart into its slots, and put together again. The float32 blocks of `x`: apart, -/
theorem xb_open : (some_ c cc0_scratch0 : sProp 𝕄) ⊢ iprop((∃ Y, hasX c 0 Y) ∗ (∃ Y, hasX c 1 Y)) :=
  (Entails.of_eq (some_eq c cc0_scratch0)).trans ((slots_out c xbM).trans (Entails.of_eq (bigSep_two _)))
/-- and together. -/
theorem xb_close : (iprop((∃ Y, hasX c 0 Y) ∗ (∃ Y, hasX c 1 Y)) : sProp 𝕄) ⊢ some_ c cc0_scratch0 :=
  ((Entails.of_eq (bigSep_two _).symm).trans (slots_in c xbM)).trans (Entails.of_eq (some_eq c cc0_scratch0).symm)
/-- The staged blocks: apart, -/
theorem st_open : (some_ c cc0_scratch1 : sProp 𝕄) ⊢ iprop((∃ Y, hasS c 0 Y) ∗ (∃ Y, hasS c 1 Y) ∗ (∃ Y, hasS c 2 Y) ∗ (∃ Y, hasS c 3 Y)) :=
  (Entails.of_eq (some_eq c cc0_scratch1)).trans ((slots_out c stM).trans (Entails.of_eq (bigSep_four _)))
/-- and together. -/
theorem st_close : (iprop((∃ Y, hasS c 0 Y) ∗ (∃ Y, hasS c 1 Y) ∗ (∃ Y, hasS c 2 Y) ∗ (∃ Y, hasS c 3 Y)) : sProp 𝕄) ⊢ some_ c cc0_scratch1 :=
  ((Entails.of_eq (bigSep_four _).symm).trans (slots_in c stM)).trans (Entails.of_eq (some_eq c cc0_scratch1).symm)
/-- The received blocks: apart, -/
theorem cm_open : (some_ c cc0_scratch2 : sProp 𝕄) ⊢ iprop((∃ Y, hasC c 0 Y) ∗ (∃ Y, hasC c 1 Y) ∗ (∃ Y, hasC c 2 Y)) :=
  (Entails.of_eq (some_eq c cc0_scratch2)).trans ((slots_out c cmM).trans (Entails.of_eq (bigSep_three _)))
/-- and together. -/
theorem cm_close : (iprop((∃ Y, hasC c 0 Y) ∗ (∃ Y, hasC c 1 Y) ∗ (∃ Y, hasC c 2 Y)) : sProp 𝕄) ⊢ some_ c cc0_scratch2 :=
  ((Entails.of_eq (bigSep_three _).symm).trans (slots_in c cmM)).trans (Entails.of_eq (some_eq c cc0_scratch2).symm)
/-- The bfloat16 blocks of `w`: apart, -/
theorem wb_open : (some_ c cc0_scratch4 : sProp 𝕄) ⊢ iprop((∃ Y, hasW c 0 Y) ∗ (∃ Y, hasW c 1 Y) ∗ (∃ Y, hasW c 2 Y)) :=
  (Entails.of_eq (some_eq c cc0_scratch4)).trans ((slots_out c wbM).trans (Entails.of_eq (bigSep_three _)))
/-- and together. -/
theorem wb_close : (iprop((∃ Y, hasW c 0 Y) ∗ (∃ Y, hasW c 1 Y) ∗ (∃ Y, hasW c 2 Y)) : sProp 𝕄) ⊢ some_ c cc0_scratch4 :=
  ((Entails.of_eq (bigSep_three _).symm).trans (slots_in c wbM)).trans (Entails.of_eq (some_eq c cc0_scratch4).symm)
/-- The four tiles of maxima: apart. -/
theorem am_open : (some_ c cc0_scratch5 : sProp 𝕄)
    ⊢ iprop((∃ Y, hasM c 0 fullShare Y) ∗ (∃ Y, hasM c 1 fullShare Y) ∗ (∃ Y, hasM c 2 fullShare Y) ∗ (∃ Y, hasM c 3 fullShare Y)) :=
  (Entails.of_eq (some_eq c cc0_scratch5)).trans ((slots_out c amM).trans (Entails.of_eq (bigSep_four _)))

/-- What a slot holds may be forgotten: a slot of float32 blocks of `x`, -/
theorem someX (k : Fin 2) (X : S1x1024x1024.Idx → Elt F .f32) : (hasX c k X : sProp 𝕄) ⊢ iprop(∃ Y, hasX c k Y) := by iintro H; iexists X; iexact H
/-- of staged blocks, -/
theorem someS (k : Fin 4) (X : S1x1024x1024.Idx → Elt F .bf16) : (hasS c k X : sProp 𝕄) ⊢ iprop(∃ Y, hasS c k Y) := by iintro H; iexists X; iexact H
/-- of received blocks, -/
theorem someC (k : Fin 3) (X : S1x1024x1024.Idx → Elt F .bf16) : (hasC c k X : sProp 𝕄) ⊢ iprop(∃ Y, hasC c k Y) := by iintro H; iexists X; iexact H
/-- of blocks of `w`. -/
theorem someW (k : Fin 3) (X : S1x1024x2048.Idx → Elt F .bf16) : (hasW c k X : sProp 𝕄) ⊢ iprop(∃ Y, hasW c k Y) := by iintro H; iexists X; iexact H

/-! ## What a device starts with -/

/-- The units device `c` is to give: to the barrier and the landing cells of the device `k + 1` places further, and to its own send cells. -/
def toks : sProp 𝕄 := bigSep Finset.univ fun k : Fin 3 => iprop(dutyTok ER (barCell (fwd k c)) 0 k.rev ∗ dutyTok ER (cell c 0 k) 0 0 ∗ dutyTok ER (cell (fwd k c) 1 k) 0 0
    ∗ dutyTok ER (cell c 2 k) 0 0 ∗ dutyTok ER (cell (fwd k c) 3 k) 0 0)
/-- Its place at each of its cells: round 0, nothing taken, -/
def stand : sProp 𝕄 := bigSep Finset.univ fun x : Cl => (atPos ER (kcell (c, x)) 0 ∅ 0 : sProp 𝕄)
/-- and in the end round 1; -/
def stood : sProp 𝕄 := bigSep Finset.univ fun x : Cl => (atPos ER (kcell (c, x)) (0 + 1) ∅ 0 : sProp 𝕄)
/-- and what it may wait for, that others will give. -/
def creds : sProp 𝕄 := iprop(cred (tallyAt (barCell c) () 3) ∗ bigSep Finset.univ fun k : Fin 3 => iprop(cred (tallyAt (cell c 1 k) () NX) ∗ cred (tallyAt (cell c 3 k) () NA)))

/-- A separating conjunction over the thirteen kinds of cell, written out. -/
theorem bigSep_cl (Φ : Cl → sProp 𝕄) : bigSep Finset.univ Φ = iprop(Φ none
    ∗ Φ (some (0, 0)) ∗ Φ (some (0, 1)) ∗ Φ (some (0, 2)) ∗ Φ (some (1, 0)) ∗ Φ (some (1, 1)) ∗ Φ (some (1, 2))
    ∗ Φ (some (2, 0)) ∗ Φ (some (2, 1)) ∗ Φ (some (2, 2)) ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

/-- Before: the arguments, the scratch buffers, the own semaphores' counters, and the protocol's part. -/
def before (O : S1024x2048.Idx → Elt F .bf16) : sProp 𝕄 :=
  iprop(records m K ∗ levAts L lv ∗ owing c 9 ∗ toks c ∗ stand c ∗ creds c
    ∗ (xArg m c fullShare ∗ wArg m c)
    ∗ (some_ c cc0_scratch0 ∗ some_ c cc0_scratch1 ∗ some_ c cc0_scratch2 ∗ some_ c cc0_scratch3 ∗ some_ c cc0_scratch4 ∗ some_ c cc0_scratch5)
    ∗ (zero c 1 ∗ zero c 2 ∗ zero c 9) ∗ outP c O)
/-- After: the same with nothing owed, every cell past its round, and the result in the output's buffer. -/
def after : sProp 𝕄 :=
  iprop(owing c 0 ∗ stood c
    ∗ (xArg m c fullShare ∗ wArg m c)
    ∗ (some_ c cc0_scratch0 ∗ some_ c cc0_scratch1 ∗ some_ c cc0_scratch2 ∗ some_ c cc0_scratch3 ∗ some_ c cc0_scratch4 ∗ some_ c cc0_scratch5)
    ∗ (zero c 1 ∗ zero c 2 ∗ zero c 9) ∗ outP c (outAt m c))

/-- Whatever the argument's owner reads at two halves it holds in full. -/
theorem xArg_halve : (xArg m c fullShare : sProp 𝕄) ⊢ iprop(xArg m c fullShare.left ∗ xArg m c fullShare.right) :=
  (pointsTo_share (PosShare.mem_left_op_right fullShare)).1
/-- The two halves of the hold on `x` make the whole again. -/
theorem xArg_join : (iprop(xArg m c fullShare.left ∗ xArg m c fullShare.right) : sProp 𝕄) ⊢ xArg m c fullShare :=
  (pointsTo_share (PosShare.mem_left_op_right fullShare)).2

/-- A program made of two, the second run from the end of the first. -/
theorem WP_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : WP c p (fun a => WP c (k a) Q) ⊢ WP c (p >>= k) Q :=
  Entails.of_eq (wp_bind frame (wpE (defs₀ (F := F)) 𝒱₀ (c : Thread nD τ) none) Set.univ p k Q).symm

set_option maxHeartbeats 1600000 in
/-- The whole body, from what the device starts with to what it ends with. -/
theorem run_body (O : S1024x2048.Idx → Elt F .bf16) {Q : PUnit → sProp (MT nD τ sig Unit (Elt F) ℕ UU ℕ)} :
    before m K c O ⊢ iprop((after m c -∗ Q ⟨⟩) -∗ WP c (cc0_body (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q) := by
  rw [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton, k0_part13_eq_skeleton]
  unfold before toks stand creds
  rw [bigSep_cl, bigSep_three, bigSep_three]
  iintro ⟨#HR, #HL, HO, ⟨⟨Ht0, Hp0, Hq0, Hr0, Hs0⟩, ⟨Ht1, Hp1, Hq1, Hr1, Hs1⟩, ⟨Ht2, Hp2, Hq2, Hr2, Hs2⟩⟩,
    ⟨Ab, Ap0, Ap1, Ap2, Aq0, Aq1, Aq2, Ar0, Ar1, Ar2, As0, As1, As2⟩, ⟨Cb, ⟨Cq0, Cs0⟩, ⟨Cq1, Cs1⟩, ⟨Cq2, Cs2⟩⟩,
    ⟨Hx, Hw⟩, ⟨Bx, Bs, Bc, ⟨%Yw, Bf⟩, Bw, Ba⟩, ⟨Z1, Z2, Z9⟩, Ho⟩ Hk
  ihave Hx := (xArg_halve m c) $$ Hx
  icases Hx with ⟨Hx0, Hx1⟩
  ihave Bx := (xb_open c) $$ Bx
  icases Bx with ⟨⟨%X0, Bx0⟩, ⟨%X1, Bx1⟩⟩
  ihave Bs := (st_open c) $$ Bs
  icases Bs with ⟨⟨%S0, Bs0⟩, ⟨%S1, Bs1⟩, ⟨%S2, Bs2⟩, ⟨%S3, Bs3⟩⟩
  ihave Bc := (cm_open c) $$ Bc
  ihave Bw := (wb_open c) $$ Bw
  icases Bw with ⟨⟨%U0, Bw0⟩, ⟨%U1, Bw1⟩, ⟨%U2, Bw2⟩⟩
  ihave Ba := (am_open c) $$ Ba
  icases Ba with ⟨Ba0, Ba1, Ba2, ⟨%M3, Ba3⟩⟩
  iapply (WP_bind c)
  iapply (part1 m K c Yw) $$ [HO Ht0 Ht1 Ht2 Bc Ba0 Ba1 Ba2 Hw Bf Z9]
  · isplitr; · iexact HR
    isplitl [HO]; · iexact HO
    isplitl [Ht0 Ht1 Ht2]
    · isplitl [Ht0]; · iexact Ht0
      isplitl [Ht1]; · iexact Ht1
      iexact Ht2
    isplitl [Bc]; · iexact Bc
    isplitl [Ba0 Ba1 Ba2]
    · isplitl [Ba0]; · iexact Ba0
      isplitl [Ba1]; · iexact Ba1
      iexact Ba2
    isplitl [Hw]; · iexact Hw
    isplitl [Bf]; · iexact Bf
    iexact Z9
  iintro %v2 %v17 %v19 %v21 ⟨HO, Hw⟩
  iapply (WP_bind c)
  iapply (part2 m c v2 X0 X1 S0) $$ [HO Hx0 Hx1 Bx0 Bx1 Z1 Z2 Bs0]
  · isplitr; · iexact HL
    isplitl [HO]; · iexact HO
    isplitl [Hx0]; · iexact Hx0
    isplitl [Hx1]; · iexact Hx1
    isplitl [Bx0]; · iexact Bx0
    isplitl [Bx1]; · iexact Bx1
    isplitl [Z1]; · iexact Z1
    isplitl [Z2]; · iexact Z2
    iexact Bs0
  iintro ⟨HO, Hx0, Bx0, Z1, Hx1, Bs0⟩
  iapply (WP_bind c)
  iapply (part3 m K c v2 S1) $$ [HO Hx0 Bx0 Z1 Hx1 Bs0 Bs1 Cb Ab Hp0 Hq0]
  · isplitr; · iexact HR
    isplitr; · iexact HL
    isplitl [HO]; · iexact HO
    isplitl [Hx0]; · iexact Hx0
    isplitl [Bx0]; · iexact Bx0
    isplitl [Z1]; · iexact Z1
    isplitl [Hx1]; · iexact Hx1
    isplitl [Bs0]; · iexact Bs0
    isplitl [Bs1]; · iexact Bs1
    isplitl [Cb Ab]
    · isplitl [Cb]; · iexact Cb
      iexact Ab
    isplitl [Hp0]; · iexact Hp0
    iexact Hq0
  iintro ⟨HO, Hx0, Hx1, Bx1, Z2, Bs1, Ab, Cp0, ⟨Dc1, Dc2⟩, Da0, Da1, Da2⟩
  iapply (WP_bind c)
  iapply (part4 m K c v2 S1 S2) $$ [HO Hx0 Hx1 Bx1 Z2 Bs1 Bs2 Dc1 Hp1 Hq1]
  · isplitr; · iexact HR
    isplitr; · iexact HL
    isplitl [HO]; · iexact HO
    isplitl [Hx0]; · iexact Hx0
    isplitl [Hx1]; · iexact Hx1
    isplitl [Bx1]; · iexact Bx1
    isplitl [Z2]; · iexact Z2
    isplitl [Bs1]; · iexact Bs1
    isplitl [Bs2]; · iexact Bs2
    isplitl [Dc1]; · iexact Dc1
    isplitl [Hp1]; · iexact Hp1
    iexact Hq1
  iintro ⟨HO, Hx0, Bx0, Z1, Hx1, Bs2, Cp1⟩
  iapply (WP_bind c)
  iapply (part5 m K c v2 S2 S3 S2) $$ [HO Hx1 Hw Bs2 Bs3 Dc2 Hp2 Hq2]
  · isplitr; · iexact HR
    isplitr; · iexact HL
    isplitl [HO]; · iexact HO
    isplitl [Hx1]; · iexact Hx1
    isplitl [Hw]; · iexact Hw
    isplitl [Bs2]; · iexact Bs2
    isplitl [Bs3]; · iexact Bs3
    isplitl [Dc2]; · iexact Dc2
    isplitl [Hp2]; · iexact Hp2
    iexact Hq2
  iintro ⟨HO, Hx1, Bx1, Z2, Hw, Bf, Z9, Bs3, Cp2⟩
  iapply (WP_bind c)
  iapply (part6 m c v17 v19 U0 U1 U2 O) $$ [HO Hw Bf Z9 Bs3 Bw0 Bw1 Bw2 Ho]
  · isplitr; · iexact HL
    isplitl [HO]; · iexact HO
    isplitl [Hw]; · iexact Hw
    isplitl [Bf]; · iexact Bf
    isplitl [Z9]; · iexact Z9
    isplitl [Bs3]; · iexact Bs3
    isplitl [Bw0]; · iexact Bw0
    isplitl [Bw1]; · iexact Bw1
    isplitl [Bw2]; · iexact Bw2
    iexact Ho
  iintro ⟨HO, Hw, Bf, Z9, Bs3, Bw0, Bw1, Bw2, Ho⟩
  iapply (WP_bind c)
  iapply (part7 m K c v2 v21 U2) $$ [HO Hw Bf Z9 Bw0 Bw1 Bw2 Ho Cq0 Aq0]
  · isplitr; · iexact HR
    isplitr; · iexact HL
    isplitl [HO]; · iexact HO
    isplitl [Hw]; · iexact Hw
    isplitl [Bf]; · iexact Bf
    isplitl [Z9]; · iexact Z9
    isplitl [Bw0]; · iexact Bw0
    isplitl [Bw1]; · iexact Bw1
    isplitl [Bw2]; · iexact Bw2
    isplitl [Ho]; · iexact Ho
    isplitl [Cq0]; · iexact Cq0
    iexact Aq0
  iintro ⟨HO, Hw, Bf, Z9, Bw0, Bw1, Bw2, Ho, Aq0, Bc0⟩
  iapply (WP_bind c)
  iapply (part8 m K c v2) $$ [HO Bw2 Ho Cq1 Aq1]
  · isplitr; · iexact HR
    isplitr; · iexact HL
    isplitl [HO]; · iexact HO
    isplitl [Bw2]; · iexact Bw2
    isplitl [Ho]; · iexact Ho
    isplitl [Cq1]; · iexact Cq1
    iexact Aq1
  iintro ⟨HO, Bw2, Ho, Aq1, Bc1⟩
  iapply (WP_bind c)
  iapply (part9 m K c v2 M3) $$ [HO Bw0 Ho Cq2 Aq2 Ba3]
  · isplitr; · iexact HR
    isplitr; · iexact HL
    isplitl [HO]; · iexact HO
    isplitl [Bw0]; · iexact Bw0
    isplitl [Ho]; · iexact Ho
    isplitl [Cq2]; · iexact Cq2
    isplitl [Aq2]; · iexact Aq2
    iexact Ba3
  iintro ⟨HO, Bw0, Ho, Aq2, Bc2, Ba3⟩
  ihave Ba3 := (am_quarter c 3 (amx m c)) $$ Ba3
  icases Ba3 with ⟨E0, E1, E2, E3⟩
  iapply (WP_bind c)
  iapply (part10 m K c v2) $$ [HO E0 E1 Da0 Da1 Hr0 Hs0 Hr1 Hs1]
  · isplitr; · iexact HR
    isplitl [HO]; · iexact HO
    isplitl [E0]; · iexact E0
    isplitl [E1]; · iexact E1
    isplitl [Da0]; · iexact Da0
    isplitl [Da1]; · iexact Da1
    isplitl [Hr0 Hs0]
    · isplitl [Hr0]; · iexact Hr0
      iexact Hs0
    isplitl [Hr1]; · iexact Hr1
    iexact Hs1
  iintro ⟨HO, Cr0, Cr1⟩
  iapply (WP_bind c)
  iapply (part11 m K c v2) $$ [HO E2 Da2 Hr2 Hs2 Cs0 As0 Cs1 As1 Cs2 As2]
  · isplitr; · iexact HR
    isplitr; · iexact HL
    isplitl [HO]; · iexact HO
    isplitl [E2]; · iexact E2
    isplitl [Da2]; · iexact Da2
    isplitl [Hr2 Hs2]
    · isplitl [Hr2]; · iexact Hr2
      iexact Hs2
    isplitl [Cs0 As0]
    · isplitl [Cs0]; · iexact Cs0
      iexact As0
    isplitl [Cs1 As1]
    · isplitl [Cs1]; · iexact Cs1
      iexact As1
    isplitl [Cs2]; · iexact Cs2
    iexact As2
  iintro ⟨HO, Cr2, ⟨As0, As1, As2⟩, Ba⟩
  iapply (WP_bind c)
  iapply (part12 m K c) $$ [HO Ho Ba E3 Cp0 Ap0]
  · isplitr; · iexact HR
    isplitr; · iexact HL
    isplitl [HO]; · iexact HO
    isplitl [Ho]; · iexact Ho
    isplitl [Ba]; · iexact Ba
    isplitl [E3]; · iexact E3
    isplitl [Cp0]; · iexact Cp0
    iexact Ap0
  iintro ⟨HO, Ho, ⟨Ba0, Ba1, Ba2⟩, E3, Ap0, Bs0⟩
  iapply (WP_bind c)
  iapply (part13 m K c) $$ [HO Cp1 Ap1 Cp2 Ap2 Cr0 Ar0 Cr1 Ar1]
  · isplitr; · iexact HR
    isplitr; · iexact HL
    isplitl [HO]; · iexact HO
    isplitl [Cp1 Ap1]
    · isplitl [Cp1]; · iexact Cp1
      iexact Ap1
    isplitl [Cp2 Ap2]
    · isplitl [Cp2]; · iexact Cp2
      iexact Ap2
    isplitl [Cr0 Ar0]
    · isplitl [Cr0]; · iexact Cr0
      iexact Ar0
    isplitl [Cr1]; · iexact Cr1
    iexact Ar1
  iintro ⟨HO, ⟨Ap1, Ap2, Ar0, Ar1⟩, Bs1, Bs2, E0, E1⟩
  simp only [Prog.lift, Prog.bind_op, Prog.bind_ret, Prog.pure_eq_ret]
  iapply (step_wait_asend m K c 2 _ rfl (dstw := amQ 3) (credit_am 3)) $$ [HO Cr2 Ar2]
  · isplitr; · iexact HR
    isplitr; · iexact HL
    isplitl [HO]; · iexact HO
    isplitl [Cr2]; · iexact Cr2
    iexact Ar2
  iintro ⟨HO, Ar2, E2⟩
  iapply (WP_ret c)
  iapply Hk
  unfold after stood
  rw [bigSep_cl]
  isplitl [HO]; · iexact HO
  isplitl [Ab Ap0 Ap1 Ap2 Aq0 Aq1 Aq2 Ar0 Ar1 Ar2 As0 As1 As2]
  · isplitl [Ab]; · iexact Ab
    isplitl [Ap0]; · iexact Ap0
    isplitl [Ap1]; · iexact Ap1
    isplitl [Ap2]; · iexact Ap2
    isplitl [Aq0]; · iexact Aq0
    isplitl [Aq1]; · iexact Aq1
    isplitl [Aq2]; · iexact Aq2
    isplitl [Ar0]; · iexact Ar0
    isplitl [Ar1]; · iexact Ar1
    isplitl [Ar2]; · iexact Ar2
    isplitl [As0]; · iexact As0
    isplitl [As1]; · iexact As1
    iexact As2
  isplitl [Hx0 Hx1 Hw]
  · isplitl [Hx0 Hx1]
    · iapply (xArg_join m c)
      isplitl [Hx0]; · iexact Hx0
      iexact Hx1
    iexact Hw
  isplitr [Z1 Z2 Z9 Ho]
  · isplitl [Bx0 Bx1]
    · iapply (xb_close c)
      isplitl [Bx0]; · iapply (someX c 0 _); iexact Bx0
      iapply (someX c 1 _); iexact Bx1
    isplitl [Bs0 Bs1 Bs2 Bs3]
    · iapply (st_close c)
      isplitl [Bs0]; · iapply (someS c 0 _); iexact Bs0
      isplitl [Bs1]; · iapply (someS c 1 _); iexact Bs1
      isplitl [Bs2]; · iapply (someS c 2 _); iexact Bs2
      iapply (someS c 3 _); iexact Bs3
    isplitl [Bc0 Bc1 Bc2]
    · iapply (cm_close c)
      isplitl [Bc0]; · iapply (someC c 0 _); iexact Bc0
      isplitl [Bc1]; · iapply (someC c 1 _); iexact Bc1
      iapply (someC c 2 _); iexact Bc2
    isplitl [Bf]; · iexists _; iexact Bf
    isplitl [Bw0 Bw1 Bw2]
    · iapply (wb_close c)
      isplitl [Bw0]; · iapply (someW c 0 _); iexact Bw0
      isplitl [Bw1]; · iapply (someW c 1 _); iexact Bw1
      iapply (someW c 2 _); iexact Bw2
    iexists (amAll m c)
    iapply (am_gather m c fullShare)
    isplitl [Ba0]; · iexact Ba0
    isplitl [Ba1]; · iexact Ba1
    isplitl [Ba2]; · iexact Ba2
    iapply (am_whole c 3 (amx m c))
    isplitl [E0]; · iexact E0
    isplitl [E1]; · iexact E1
    isplitl [E2]; · iexact E2
    iexact E3
  isplitl [Z1 Z2 Z9]
  · isplitl [Z1]; · iexact Z1
    isplitl [Z2]; · iexact Z2
    iexact Z9
  iexact Ho

end Cert.KProof

end
-- ==== Proof.Launch.lean ====
/-
# Launch: what the launch deals each device

The ring's cells are allocated for all devices at once, the units to be given are dealt to the devices giving them, and each
device is credited with what the others owe its cells.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

def ringCells : Finset (GSem nD τ sig) := Finset.univ.map ⟨kcell, kcell_injective⟩

/-- Which cell and which duty of it: number `j` of the five units bearing the number `k`. -/
def tokCl (kj : Fin 3 × Fin 5) : Cl × Fin 3 := match kj.2 with
  | 0 => (none, kj.1.rev) | 1 => (some (0, kj.1), 0) | 2 => (some (1, kj.1), 0) | 3 => (some (2, kj.1), 0) | 4 => (some (3, kj.1), 0)
/-- The five tokens for a shift are of different cells, -/
theorem tokCl_injective : Function.Injective tokCl := by decide
def tokOf (x : Dev nD × Fin 3 × Fin 5) : GSem nD τ sig × ℕ × Fin 3 := (kcell (x.1, (tokCl x.2).1), 0, (tokCl x.2).2)
/-- and so are all the tokens. -/
theorem tokOf_injective : Function.Injective tokOf := by
  rintro ⟨c, x⟩ ⟨c', x'⟩ h
  have h1 := kcell_injective (congrArg Prod.fst h)
  have h2 : (tokCl x).2 = (tokCl x').2 := congrArg (fun y : GSem nD τ sig × ℕ × Fin 3 => y.2.2) h
  have hc : c = c' := congrArg Prod.fst h1
  have hx : x = x' := tokCl_injective (Prod.ext (congrArg Prod.snd h1) h2)
  rw [hc, hx]
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, 1))

/-- The launch element is the staging pipeline's and the ring's. -/
theorem ownU_split (a : UR sig nD τ) (b : UB) : (ownU ((a, (b, 1)) : UU) : sProp 𝕄) ⊢ iprop(BI.own (EP a) ∗ BI.own (ER b)) := by
  refine (ownU_pair a ((b, 1) : UB × Counters)).trans ?_
  refine sep_mono_right ((own_pair_emb (embR : Emb (UB × Counters) (MT nD τ sig Unit (Elt F) ℕ UU ℕ)) b (1 : Counters)).trans (sep_elim_left.trans (Entails.of_eq ?_)))
  rfl

/-- The units of device `c`'s own cells, as minted. -/
def minted (c : Dev nD) : sProp 𝕄 := bigSep Finset.univ fun k : Fin 3 => iprop(dutyTok ER (barCell c) 0 k.rev ∗ dutyTok ER (cell c 0 k) 0 0
  ∗ dutyTok ER (cell c 1 k) 0 0 ∗ dutyTok ER (cell c 2 k) 0 0 ∗ dutyTok ER (cell c 3 k) 0 0)

/-- What the launch element deals device `c`. -/
def G (c : Dev nD) : sProp 𝕄 :=
  iprop((bigSep Finset.univ fun x : Cl => roundState ER (ringRd m) (kcell (c, x)) 0)
    ∗ (bigSep Finset.univ fun x : Cl => iprop(atPos ER (kcell (c, x)) 0 ∅ 0 ∗ reached ER (kcell (c, x)) 0)) ∗ minted c)

/-- A separating conjunction over five, written out. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- Over all the protocol's cells is over the devices and, of each, over its cells; -/
theorem over_cells (Φ : GSem nD τ sig → sProp 𝕄) :
    bigSep ringCells Φ = bigSep Finset.univ fun c : Dev nD => bigSep Finset.univ fun x : Cl => Φ (kcell (c, x)) := by
  unfold ringCells; rw [bigSep_map, bigSep_univ_prod]; rfl
/-- over all the tokens is over the devices' own. -/
theorem over_toks : bigSep ringToks (fun x => (dutyTok ER x.1 x.2.1 x.2.2 : sProp 𝕄)) = bigSep Finset.univ fun c : Dev nD => minted c := by
  unfold ringToks; rw [bigSep_map, bigSep_univ_prod]
  refine bigSep_congr fun c _ => ?_
  rw [bigSep_univ_prod]; unfold minted
  exact bigSep_congr fun k _ => by rw [bigSep_five]; rfl

/-- The protocol's first state yields every device's share of it. -/
theorem fund_ring : BI.own (ER (initOf ringCells ringToks)) ⊢ (|==> bigSep Finset.univ (G m) : sProp 𝕄) := by
  iintro HX
  imod (Rounds.fund ER (ringRd m) ringCells ringToks) $$ HX with ⟨Hst, Hr, Hat, Htok⟩
  imodintro
  ihave Hst := (Entails.of_eq (over_cells fun g => roundState ER (ringRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat Hr]
  · isplitl [Hat]; · iexact Hat
    iexact Hr
  iexact Htok

/-! ## The semaphores' counters -/

/-- The kernel's own semaphores: all after the output's staging semaphore. -/
def osem (i : Fin 15) : SemLoc sig := .dma ⟨i.val + 1, by have := i.isLt; show i.val + 1 < 16; omega⟩
/-- The semaphores listed are the launch's own. -/
theorem ownSemFacts : Pipeline.OwnSemFacts cfg0.spec osem := by decide

/-- A device's own semaphores at zero, written out; -/
theorem ownSems0_eq (c : Dev nD) : (Pipeline.ownSems0 (Ix := Unit) (Name := ℕ) (U := UU) (Lvl := ℕ) (Val := Elt F) (τ := τ) osem c : sProp 𝕄)
    = iprop(zero c 1 ∗ zero c 2 ∗ semVal (kcell (c, some (0, 0))) 0 ∗ semVal (kcell (c, some (0, 1))) 0 ∗ semVal (kcell (c, some (0, 2))) 0
      ∗ semVal (kcell (c, some (1, 0))) 0 ∗ semVal (kcell (c, some (1, 1))) 0 ∗ semVal (kcell (c, some (1, 2))) 0 ∗ zero c 9
      ∗ semVal (kcell (c, some (2, 0))) 0 ∗ semVal (kcell (c, some (2, 1))) 0 ∗ semVal (kcell (c, some (2, 2))) 0
      ∗ semVal (kcell (c, some (3, 0))) 0 ∗ semVal (kcell (c, some (3, 1))) 0 ∗ semVal (kcell (c, some (3, 2))) 0) := by
  rw [Pipeline.ownSems0_eq_of_list c osem [0, 1, 2, 3, 4, 5, 6, 7, 8, 9, 10, 11, 12, 13, 14] (by decide) (by decide)]; rfl
/-- the one that outlives the launch is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev zeros (c : Dev nD) : sProp 𝕄 := iprop(zero c 1 ∗ zero c 2 ∗ zero c 9)

/-- All counters of a device at zero are the ring's and the three of its local transfers; -/
theorem sems_out (c : Dev nD) :
    iprop(Pipeline.ownSems0 (Ix := Unit) (Name := ℕ) (U := UU) (Lvl := ℕ) (Val := Elt F) (τ := τ) osem c ∗ unscopedSems0 c)
      ⊢ (iprop((bigSep Finset.univ fun x : Cl => semVal (kcell (c, x)) 0) ∗ zeros c) : sProp 𝕄) := by
  rw [ownSems0_eq, unscopedSems0_eq, bigSep_cl]
  iintro ⟨⟨H1, H2, A0, A1, A2, B0, B1, B2, H9, C0, C1, C2, D0, D1, D2⟩, Hb⟩
  isplitr [H1 H2 H9]
  · isplitl [Hb]; · iexact Hb
    isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    isplitl [C2]; · iexact C2
    isplitl [D0]; · iexact D0
    isplitl [D1]; · iexact D1
    iexact D2
  isplitl [H1]; · iexact H1
  isplitl [H2]; · iexact H2
  iexact H9
/-- and back. -/
theorem sems_in (c : Dev nD) :
    (iprop((bigSep Finset.univ fun x : Cl => semVal (kcell (c, x)) 0) ∗ zeros c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, bigSep_cl]
  iintro ⟨⟨Hb, A0, A1, A2, B0, B1, B2, C0, C1, C2, D0, D1, D2⟩, H1, H2, H9⟩
  isplitl [Hb]; · iexact Hb
  isplitl [H1]; · iexact H1
  isplitl [H2]; · iexact H2
  isplitl [A0]; · iexact A0
  isplitl [A1]; · iexact A1
  isplitl [A2]; · iexact A2
  isplitl [B0]; · iexact B0
  isplitl [B1]; · iexact B1
  isplitl [B2]; · iexact B2
  isplitl [H9]; · iexact H9
  isplitl [C0]; · iexact C0
  isplitl [C1]; · iexact C1
  isplitl [C2]; · iexact C2
  isplitl [D0]; · iexact D0
  isplitl [D1]; · iexact D1
  iexact D2

/-! ## The ring set up on all devices -/

/-- A device's semaphores at zero and its share of the protocol become the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (ringRd m) κ (kcell (c, x))))
          ∗ (bigSep Finset.univ fun x => iprop(atPos ER (kcell (c, x)) 0 ∅ 0 ∗ reached ER (kcell (c, x)) 0)) ∗ minted c ∗ zeros c) := by
  unfold G
  iintro ⟨Hos, Hus, Hst, Hat, Htok⟩
  ihave Hv := (sems_out (F := F) c) $$ [Hos Hus]
  · isplitl [Hos] <;> iassumption
  icases Hv with ⟨Hv, Hz⟩
  imod (show iprop((bigSep Finset.univ fun x : Cl => semVal (kcell (c, x)) 0) ∗ bigSep Finset.univ fun x : Cl => roundState ER (ringRd m) (kcell (c, x)) 0)
      ⊢ (|={Set.univ}=> bigSep Finset.univ fun x => iprop(∃ κ : ℕ, cellInv ER (ringRd m) κ (kcell (c, x))) : sProp 𝕄) from by
        rw [← bigSep_sep']
        exact (bigSep_mono fun x _ => (Rounds.body_intro ER (ringRd m) (kcell (c, x))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-- Over devices and then over a finite type, or the other way round. -/
theorem over_comm {I : Type} [Fintype I] (Φ : Dev nD → I → sProp 𝕄) :
    (bigSep Finset.univ fun c => bigSep Finset.univ fun k => Φ c k) = bigSep Finset.univ fun k => bigSep Finset.univ fun c => Φ c k := by
  rw [← bigSep_univ_prod (fun p : Dev nD × I => Φ p.1 p.2), ← bigSep_univ_prod (fun p : I × Dev nD => Φ p.2 p.1)]
  exact bigSep_univ_equiv (Equiv.prodComm _ _) _

/-- The units dealt to the devices that give them. -/
theorem toks_around : (bigSep Finset.univ fun c : Dev nD => (minted c : sProp 𝕄)) = bigSep Finset.univ fun c : Dev nD => toks c := by
  unfold minted toks
  rw [over_comm, over_comm]
  refine bigSep_congr fun k _ => ?_
  rw [bigSep_sep', bigSep_sep', bigSep_sep', bigSep_sep', bigSep_sep', bigSep_sep', bigSep_sep', bigSep_sep',
    bigSep_univ_equiv (shift k) (fun c : Dev nD => (dutyTok ER (barCell c) 0 k.rev : sProp 𝕄)),
    bigSep_univ_equiv (shift k) (fun c : Dev nD => (dutyTok ER (cell c 1 k) 0 0 : sProp 𝕄)),
    bigSep_univ_equiv (shift k) (fun c : Dev nD => (dutyTok ER (cell c 3 k) 0 0 : sProp 𝕄))]
  rfl

/-- What each device holds once the ring is set up. -/
def G' (c : Dev nD) : sProp 𝕄 := iprop(∃ K, records m K ∗ stand c ∗ toks c ∗ zeros c)

/-- What may be kept is at hand for each part of a conjunction. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' cells and tokens, collected: every device gets all the records and the tokens of what it sends. -/
theorem regroup :
    (bigSep Finset.univ fun c : Dev nD => iprop((bigSep Finset.univ fun x => iprop(∃ κ : ℕ, cellInv ER (ringRd m) κ (kcell (c, x))))
          ∗ (bigSep Finset.univ fun x => iprop(atPos ER (kcell (c, x)) 0 ∅ 0 ∗ reached ER (kcell (c, x)) 0)) ∗ minted c ∗ zeros c) : sProp 𝕄)
      ⊢ bigSep Finset.univ (G' m) := by
  rw [bigSep_sep', bigSep_sep', bigSep_sep', ← bigSep_univ_prod (fun cx : Dev nD × Cl => iprop(∃ κ : ℕ, cellInv ER (ringRd m) κ (kcell cx))),
    bigSep_congr (s := Finset.univ) (fun (c : Dev nD) _ => bigSep_sep' Finset.univ (fun x : Cl => (atPos ER (kcell (c, x)) 0 ∅ 0 : sProp 𝕄)) (fun x => reached ER (kcell (c, x)) 0)),
    bigSep_sep', ← bigSep_univ_prod (fun cx : Dev nD × Cl => (reached ER (kcell cx) 0 : sProp 𝕄)), toks_around]
  iintro ⟨HI, ⟨Hat, #HR⟩, Htok, Hz⟩
  ihave HK := (BI.bigSep_exists_pi Finset.univ (fun (cx : Dev nD × Cl) (κ : ℕ) => (cellInv ER (ringRd m) κ (kcell cx) : sProp 𝕄))) $$ HI
  icases HK with ⟨%K, #HI⟩
  iapply (with_persistent (R := records m K) (Φ := fun c => iprop(stand c ∗ toks c ∗ zeros c)) fun c _ => (by
    unfold G'; iintro ⟨#HR, H⟩; iexists K
    isplitr; · iexact HR
    iexact H))
  isplitr
  · unfold records; isplitr; · iexact HI
    iexact HR
  unfold stand
  iapply (Entails.of_eq (bigSep_sep' Finset.univ (fun c : Dev nD => bigSep Finset.univ fun x : Cl => (atPos ER (kcell (c, x)) 0 ∅ 0 : sProp 𝕄)) (fun c => iprop(toks c ∗ zeros c))).symm)
  isplitl [Hat]; · iexact Hat
  iapply (Entails.of_eq (bigSep_sep' Finset.univ (fun c : Dev nD => (toks c : sProp 𝕄)) (fun c => zeros c)).symm)
  isplitl [Htok]; · iexact Htok
  iexact Hz

/-- The launch's set-up, for all the devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- How much a device owes to a cell. -/
theorem Ow_apply (d : Dev nD) (n : ℕ) (g : GSem nD τ sig) : Ow d n g () = ∑ i ∈ Finset.range n, if g = owedCell d i then amtOf (owedCl i).2 else 0 := by
  induction n with
  | zero => rfl
  | succ n ih =>
    rw [Finset.sum_range_succ, ← ih, Ow, Pi.add_apply, Finsupp.add_apply, tallyAt_apply]
    congr 1
    by_cases h : g = owedCell d n
    · rw [if_pos ⟨h, rfl⟩, if_pos h]
    · rw [if_neg (fun h' => h h'.1), if_neg h]

/-- All devices together owe a cell one amount for each debt that is of its kind. -/
theorem owed_all (c : Dev nD) (x : Cl) : ∑ d : Dev nD, Ow d 9 (kcell (c, x)) () = ∑ i ∈ Finset.range 9, if x = (owedCl i).2 then amtOf x else 0 := by
  rw [Finset.sum_congr rfl fun d _ => Ow_apply d 9 _, Finset.sum_comm]
  refine Finset.sum_congr rfl fun i _ => ?_
  have h : ∀ d : Dev nD, (if kcell (c, x) = owedCell d i then amtOf (owedCl i).2 else 0)
      = if d = bwd (owedCl i).1 c then (if x = (owedCl i).2 then amtOf x else 0) else 0 := fun d => by
    by_cases hd : d = bwd (owedCl i).1 c
    · rw [if_pos hd, hd, owedCell, fwd_bwd]
      by_cases hx : x = (owedCl i).2
      · rw [if_pos hx, if_pos (by rw [← hx]), ← hx]
      · rw [if_neg hx, if_neg fun h => hx (congrArg Prod.snd (kcell_injective h))]
    · rw [if_neg hd, if_neg fun h => hd (by
        have hc : c = fwd (owedCl i).1 d := congrArg Prod.fst (kcell_injective h)
        rw [hc, bwd_fwd])]
  rw [Finset.sum_congr rfl fun d _ => h d, Finset.sum_ite_eq' Finset.univ (bwd (owedCl i).1 c), if_pos (Finset.mem_univ _)]

/-- A cell's credit at launch is all that the devices together owe to it. -/
theorem credit_at (c : Dev nD) (x : Cl) (a : ℕ) (ha : (∑ i ∈ Finset.range 9, if x = (owedCl i).2 then amtOf x else 0) = a) :
    tallyOn (kcell (c, x)) (launchCredit (Pipeline.owing fun d => Ow d 9) 0 (kcell (c, x))) = (tallyAt (kcell (c, x)) () a : CellTallies nD τ sig Unit) := by
  unfold tallyAt; refine congrArg _ (Finsupp.ext fun u => ?_); cases u
  rw [Pipeline.launchCredit_owing, Finsupp.single_eq_same, owed_all, ha]

/-- A barrier is owed three signals, -/
theorem count_bar : (∑ i ∈ Finset.range 9, if (none : Cl) = (owedCl i).2 then amtOf none else 0) = 3 := rfl
/-- a slot for a row block one transfer, -/
theorem count_recv (k : Fin 3) : (∑ i ∈ Finset.range 9, if (some (1, k) : Cl) = (owedCl i).2 then amtOf (some (1, k)) else 0) = NX := by
  rw [show amtOf (some (1, k)) = NX from rfl]
  generalize NX = a
  fin_cases k <;> simp [Finset.sum_range_succ, owedCl]
/-- and a slot for a maximum one. -/
theorem count_arecv (k : Fin 3) : (∑ i ∈ Finset.range 9, if (some (3, k) : Cl) = (owedCl i).2 then amtOf (some (3, k)) else 0) = NA := by
  rw [show amtOf (some (3, k)) = NA from rfl]
  generalize NA = a
  fin_cases k <;> simp [Finset.sum_range_succ, owedCl]

/-- A device's credits at launch are those of the cells it waits on. -/
theorem launch_creds (c : Dev nD) : (Pipeline.launchCred (fun d => Ow d 9) c : sProp 𝕄) ⊢ creds c := by
  have h : (Pipeline.launchCred (fun d => Ow d 9) c : sProp 𝕄) ⊢ bigSep Finset.univ fun x : Cl =>
      cred (tallyOn (kcell (c, x)) (launchCredit (Pipeline.owing fun d => Ow d 9) 0 (kcell (c, x)))) := by
    unfold Pipeline.launchCred
    refine (bigSep_subset (Finset.subset_univ (Finset.univ.map ⟨csem, csem_injective⟩))).trans ?_
    rw [bigSep_map]; exact BI.Entails.refl _
  rw [bigSep_cl] at h
  unfold creds; rw [bigSep_three]
  iintro H
  ihave H := h $$ H
  icases H with ⟨Hb, -, -, -, Q0, Q1, Q2, -, -, -, S0, S1, S2⟩
  ihave Hb := (Entails.of_eq (congrArg cred (credit_at c none 3 count_bar))) $$ Hb
  ihave Q0 := (Entails.of_eq (congrArg cred (credit_at c (some (1, 0)) NX (count_recv 0)))) $$ Q0
  ihave Q1 := (Entails.of_eq (congrArg cred (credit_at c (some (1, 1)) NX (count_recv 1)))) $$ Q1
  ihave Q2 := (Entails.of_eq (congrArg cred (credit_at c (some (1, 2)) NX (count_recv 2)))) $$ Q2
  ihave S0 := (Entails.of_eq (congrArg cred (credit_at c (some (3, 0)) NA (count_arecv 0)))) $$ S0
  ihave S1 := (Entails.of_eq (congrArg cred (credit_at c (some (3, 1)) NA (count_arecv 1)))) $$ S1
  ihave S2 := (Entails.of_eq (congrArg cred (credit_at c (some (3, 2)) NA (count_arecv 2)))) $$ S2
  isplitl [Hb]; · iexact Hb
  isplitl [Q0 S0]
  · isplitl [Q0]; · iexact Q0
    iexact S0
  isplitl [Q1 S1]
  · isplitl [Q1]; · iexact Q1
    iexact S1
  isplitl [Q2]; · iexact Q2
  iexact S2

end Cert.KProof

end
-- ==== Proof.Run.lean ====
/-
# Run: every execution ends with the computed contents

The launch's proof data, its side conditions, and the run: for any float values every execution of the program ends, on every
device, with the arguments unchanged, the result `outAt`, and every semaphore's counter at zero.
-/
module

public import proofs.«01_k».proof.Proof.Launch
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

open Idealize.ShloMosaic.Pipeline (Dat Cfg Window BodyObligation cellOf)
variable (m : (ℓ : Loc nD τ sig) → Buf (Elt F) ℓ) (ρ : Dev nD → PrngReg)

/-! ## The launch's proof data -/

/-- What device `c` has at launch, besides its scratch buffers: -/
def start (c : Dev nD) : sProp 𝕄 := iprop(G' m c ∗ creds c ∗ levAts L lv ∗ xArg m c fullShare ∗ wArg m c)
abbrev scratch (c : Dev nD) : sProp 𝕄 :=
  iprop(some_ c cc0_scratch0 ∗ some_ c cc0_scratch1 ∗ some_ c cc0_scratch2 ∗ some_ c cc0_scratch3 ∗ some_ c cc0_scratch4 ∗ some_ c cc0_scratch5)
/-- before the kernel all of it, -/
def Φ₀ (c : Dev nD) : sProp 𝕄 := iprop(start m c ∗ scratch c)
/-- after it the scratch buffers, all counters at zero, and the arguments. -/
def Φ₁ (c : Dev nD) : sProp 𝕄 :=
  iprop(((bigSep Finset.univ fun x : Cl => semVal (kcell (c, x)) 0) ∗ zeros c) ∗ (xArg m c fullShare ∗ wArg m c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => Ow c 9
    | ⟨_ + 1, _⟩ => 0

/-- The launch has one window. -/
theorem bigSep_win (Φ : Fin cfg0.W → sProp 𝕄) : bigSep Finset.univ Φ = Φ (0 : Fin 1) := bigSep_W0 Φ

/-- Owning a whole buffer is holding it with contents that agree. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer of device `c` held in full at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Every cell closed. -/
theorem close_all (K : Dev nD × Cl → ℕ) (c : Dev nD) :
    iprop(records m K ∗ stood c) ⊢ (|={Set.univ}=> bigSep Finset.univ fun x : Cl => semVal (kcell (c, x)) 0 : sProp 𝕄) :=
  (with_persistent (R := records m K) fun x _ => close_cell m K c x).trans (bigSep_fupd _ _)

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outAt m c))

/-- The body meets its specification on every device, -/
theorem body_main (c : Dev nD) : bodyPre m c ⊢ WP c (cc0_body (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) (fun _ => bodyPost m c) := by
  unfold bodyPre Φ₀ start G' Dat.owesAt Pipeline.owesWithin
  rw [show (dats m 0 c).owed t0_0.castSucc = Ow c 9 from rfl]
  iintro ⟨⟨⟨⟨%K, #HR, Hst, Htk, Hz⟩, Hcr, Hlv, Hargs⟩, Hscr⟩, ⟨%W, %hW, HO⟩, ⟨%d, %f, %hf, Hout⟩⟩
  iapply (wp_fupd frame (wpE (defs₀ (F := F)) 𝒱₀ (c : Thread nD τ) none) Set.univ)
  iapply (run_body m K c f) $$ [Hst Htk Hz Hcr Hlv Hargs Hscr HO Hout]
  · unfold before
    isplitr; · iexact HR
    isplitl [Hlv]; · iexact Hlv
    isplitl [HO]; · iexists W; iexact HO
    isplitl [Htk]; · iexact Htk
    isplitl [Hst]; · iexact Hst
    isplitl [Hcr]; · iexact Hcr
    isplitl [Hargs]; · iexact Hargs
    isplitl [Hscr]; · iexact Hscr
    isplitl [Hz]; · iexact Hz
    iexact Hout
  unfold after
  iintro ⟨⟨%W', HO⟩, Hsd, Hargs, Hscr, Hz, Hout⟩
  imod (close_all m K c) $$ [Hsd] with Hv
  · isplitr; · iexact HR
    iexact Hsd
  imodintro
  unfold bodyPost Φ₁ Dat.owesAt Pipeline.owesWithin
  rw [show (dats m 0 c).owed t0_0.succ = 0 from rfl]
  isplitl [Hv Hz Hargs Hscr]
  · isplitl [Hv Hz]
    · isplitl [Hv]; · iexact Hv
      iexact Hz
    isplitl [Hargs]; · iexact Hargs
    iexact Hscr
  isplitl [HO]
  · iexists W'
    isplitr; · ipureintro; exact fun _ _ => Or.inl trivial
    iexact HO
  iexists _; isplitr; · (ipureintro; rfl)
  iexact Hout

set_option maxRecDepth 4000 in
/-- as the launch asks for. -/
theorem body_obligation (c : Dev nD) : BodyObligation (dats m 0 c) (defs₀ (F := F)) 𝒱₀ () Set.univ := fun t => by
  rw [show t = t0_0 from fin_N0 t]
  rw [bigSep_win, bigSep_win]
  simp only [owns_whole_eq]
  show bodyPre m c ⊢ WP c (cc0_body (Memref.whole main_arg0) (Memref.isWhole_whole _) (Memref.whole main_arg1) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) (fun _ => bodyPost m c)
  exact body_main m c

/-! ## The launch's side conditions -/

/-- The window is held whole. -/
theorem share_eq (c : Dev nD) (w : Fin cfg0.W) : (dats m 0 c).share w = fullShare := by unfold Dat.share; split <;> rfl

/-- What a device has at launch is what its body starts with, -/
theorem start_intro (c : Dev nD) :
    iprop(Pipeline.unscopedRestP Pipeline.Prefetch.none cfg0.spec c (fun b => m ((c : Thread nD τ).loc b)) ∗ levAts L lv
        ∗ Pipeline.launchCred (fun d => Ow d 9) c ∗ prngReg c (ρ c) ∗ G' m c)
      ⊢ (|={Set.univ}=> iprop(start m c ∗ emp) : sProp 𝕄) := by
  rw [Pipeline.unscopedRestP_none, show cfg0.spec = spec0 from rfl, unscopedRest0_eq]
  iintro ⟨⟨Hx, Hw⟩, Hlev, Hcr, -, HG⟩
  ihave Hc := (launch_creds (F := F) c) $$ Hcr
  imodintro
  unfold start
  isplitl
  · isplitl [HG]; · iexact HG
    isplitl [Hc]; · iexact Hc
    isplitl [Hlev]; · iexact Hlev
    isplitl [Hx]; · iexact Hx
    iexact Hw
  · iempintro

/-- as the launch hands it over. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the body ends with is what the launch takes back. -/
theorem phi1_exit (c : Dev nD) :
    (dats m 0 c).Φ (Fin.last cfg0.N) ⊢ iprop((unscopedSems0 c ∗ xArg m c fullShare ∗ wArg m c) ∗ Pipeline.ownSems0 osem c ∗ Pipeline.scopedRest cfg0.spec c) := by
  rw [show (dats m 0 c).Φ (Fin.last cfg0.N) = Φ₁ m c from rfl, scopedRest0_eq]
  unfold Φ₁
  iintro ⟨Hv, Hargs, Hscr⟩
  ihave Hs := (sems_in (F := F) c) $$ Hv
  icases Hs with ⟨Hu, Ho⟩
  isplitl [Hu Hargs]
  · isplitl [Hu]; · iexact Hu
    iexact Hargs
  isplitl [Ho]; · iexact Ho
  iexact Hscr

/-- The launch's own waits lie below everything owed. -/
theorem waits (c : Dev nD) : (levAts L lv : sProp 𝕄) ⊢ Pipeline.cellsWaits cfgs (dats m) () 0 c :=
  Pipeline.cellsWaits_intro cfgs (dats m) () 0 c fun w s t => by
    have hq : ∀ x, csem x ≠ .dma ((cfg0.win w).sem s) := by fin_cases w; fin_cases s; decide
    rcases t with ⟨_ | _, ht⟩
    · exact mayWait_plain c _ hq (n := 9) (le_refl 9)
    · exact mayWait_plain c _ hq (n := 0) (Nat.zero_le 9)

/-! ## The run -/

/-- What the argument arrays and the semaphores outside the kernel's own read when the run ends. -/
def Ends (c : Dev nD) (s : MemSt nD τ sig (Elt F)) : Prop :=
  (s.mem ((c : Thread nD τ).loc main_arg0) = A0 m c ∧ s.mem ((c : Thread nD τ).loc main_arg1) = A1 m c)
    ∧ ∀ sm : SemLoc sig, sm.isScoped .tc = false → s.sem ((c.tc : Thread nD τ), sm) = 0

/-- At the end the arguments are as they were and the barrier's counter is zero. -/
theorem ends_read (c : Dev nD) (s' : Phys nD τ sig (Elt F)) :
    iprop((unscopedSems0 c ∗ xArg m c fullShare ∗ wArg m c) ∗ emp ∗ SI s') ⊢ (|={Set.univ}=> iprop(⌜Ends m c s'.mem⌝ ∗ SI s') : sProp 𝕄) := by
  iintro ⟨⟨Hu, Hx, Hw⟩, -, HSI⟩
  icombine HSI Hx gives %h0
  icombine HSI Hw gives %h1
  imod (Pipeline.unscopedSems0_read (X := unscopedSems0 c) (c := c) fupd_intro s') $$ [Hu HSI] with ⟨%hs, HSI⟩
  · isplitl [Hu] <;> iassumption
  imodintro
  isplitr; · ipureintro; exact ⟨⟨Buf.eq_of_forall_mem_univ h0, Buf.eq_of_forall_mem_univ h1⟩, hs⟩
  iexact HSI

/-- What the result's array holds in the end. -/
def finalA (c : Dev nD) : Buf (Elt F) ((c : Thread nD τ).loc main_v1) := (dats m 0 c).arrAt (0 : Fin 1) cfg0.N

set_option maxRecDepth 8000 in
/-- For any float values, from any memory with zero counters: every execution ends, on each device with the result's array at
    `finalA`, with both arguments unchanged and with every semaphore's counter at zero. -/
theorem run_main : θ_run defs (onTc (τ := τ) (main (F := F))) ⟨m, fun _ => 0, ρ⟩ (fun r =>
    (∀ c : Dev nD, r.2.mem ((c : Thread nD τ).loc main_v1) = finalA m c
      ∧ r.2.mem ((c : Thread nD τ).loc main_arg0) = A0 m c ∧ r.2.mem ((c : Thread nD τ).loc main_arg1) = A1 m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := fun d => Ow d 9) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ xArg m c fullShare ∗ wArg m c)) (Z := fun _ => iprop(emp))
    (hX := start_intro m ρ) (hin := phi0_intro m) (hout := phi1_exit m)
    (QY := Ends m) (hY := ends_read m)
    (hQ := fun _ h hs => ⟨fun c => ⟨(h c).1 0, (h c).2.2.1⟩, sem_eq_zero hs fun c => (h c).2.2.2⟩)

end Cert.KProof

end
-- ==== Proof.Spec.lean ====
/-
# Spec: the product, its maximum and the quantiser, over the extended reals

What both programs compute, as functions of the whole arrays: the product `prod`, the maximum `top` of its positive part, and
the quantised value `quant` of one element; and the two facts that relate a device's share to the whole: a sum over all columns
is the sum over the four devices' columns, and a maximum over all rows is the maximum over the four devices' rows.
-/
module

public import Idealize.ShloMosaic.Lib.Pointwise

@[expose] public section

noncomputable section

namespace Cert.Spec

open Idealize.ShloMosaic

abbrev SX : Shape := ⟨2, ![4096, 4096]⟩
abbrev SW : Shape := ⟨2, ![4096, 2048]⟩

/-- An element of the product of `x` and `w`. -/
def prod (X : SX.Idx → EReal) (W : SW.Idx → EReal) (r : Fin 4096) (n : Fin 2048) : EReal :=
  ∑ k : Fin 4096, X (ix2 r k) * W (ix2 k n)

/-- The greatest positive part of an element. -/
def top (Y : Fin 4096 → Fin 2048 → EReal) : EReal :=
  (Finset.univ : Finset (Fin 4096 × Fin 2048)).sup fun p => max (Y p.1 p.2) 0

/-- The quantiser's bound, 127, -/
def bound : EReal := Ideal.ofBits FTy.f32 0x42FE0000#32
/-- the same below zero, -/
def boundNeg : EReal := Ideal.ofBits FTy.f32 0xC2FE0000#32

/-- and the quantised and dequantised positive part of `y`, where the greatest is `M`: divided by the scale `M / 127`, rounded to
    even, clipped, and multiplied by the scale. -/
def quant (M y : EReal) : EReal :=
  min bound (max boundNeg (Ideal.liftRound Ideal.roundHalfEven (Ideal.div (max y 0) (Ideal.div M bound)))) * Ideal.div M bound

/-! ## A device's share -/

/-- Row (or column) `r` of device `d`'s 1024. -/
def at4 (d : Fin 4) (r : Fin 1024) : Fin 4096 := ⟨1024 * d.val + r.val, by have := d.isLt; have := r.isLt; omega⟩

/-- Rows are a device and a row of the device's. -/
def rows : Fin 4 × Fin 1024 ≃ Fin 4096 where
  toFun p := at4 p.1 p.2
  invFun r := (⟨r.val / 1024, by have := r.isLt; omega⟩, ⟨r.val % 1024, Nat.mod_lt _ (by decide)⟩)
  left_inv p := by
    have := p.1.isLt; have := p.2.isLt
    apply Prod.ext <;> apply Fin.ext
    · show (1024 * p.1.val + p.2.val) / 1024 = p.1.val; omega
    · show (1024 * p.1.val + p.2.val) % 1024 = p.2.val; omega
  right_inv r := by
    apply Fin.ext
    show 1024 * (r.val / 1024) + r.val % 1024 = r.val; omega

/-- The part of an element of the product that comes from device `d`'s columns of `x`. -/
def share (X : SX.Idx → EReal) (W : SW.Idx → EReal) (d : Fin 4) (r : Fin 4096) (n : Fin 2048) : EReal :=
  ∑ k : Fin 1024, X (ix2 r (at4 d k)) * W (ix2 (at4 d k) n)

/-- The product is the sum of the four devices' parts. -/
theorem prod_eq (X : SX.Idx → EReal) (W : SW.Idx → EReal) (r : Fin 4096) (n : Fin 2048) :
    prod X W r n = ∑ d : Fin 4, share X W d r n := by
  unfold prod share
  rw [← Equiv.sum_comp rows, Fintype.sum_prod_type]
  rfl

/-- The greatest positive part is the greatest of the four devices' greatest elements, or zero. -/
theorem top_eq (Y : Fin 4096 → Fin 2048 → EReal) :
    top Y = (Finset.univ : Finset (Fin 4)).sup fun d =>
      max ((Finset.univ : Finset (Fin 1024 × Fin 2048)).sup fun p => Y (at4 d p.1) p.2) 0 := by
  apply le_antisymm
  · refine Finset.sup_le fun p _ => ?_
    have hp : at4 (rows.symm p.1).1 (rows.symm p.1).2 = p.1 := rows.apply_symm_apply p.1
    refine le_trans (max_le_max ?_ le_rfl) (Finset.le_sup (f := fun d : Fin 4 =>
      max ((Finset.univ : Finset (Fin 1024 × Fin 2048)).sup fun p => Y (at4 d p.1) p.2) 0) (Finset.mem_univ (rows.symm p.1).1))
    have h := Finset.le_sup (f := fun q : Fin 1024 × Fin 2048 => Y (at4 (rows.symm p.1).1 q.1) q.2)
      (Finset.mem_univ ((rows.symm p.1).2, p.2))
    rwa [hp] at h
  · refine Finset.sup_le fun d _ => max_le (Finset.sup_le fun p _ => ?_) ?_
    · exact le_trans (le_max_left _ _) (Finset.le_sup (f := fun p : Fin 4096 × Fin 2048 => max (Y p.1 p.2) 0) (Finset.mem_univ (at4 d p.1, p.2)))
    · exact le_trans (le_max_right (Y 0 0) 0) (Finset.le_sup (f := fun p : Fin 4096 × Fin 2048 => max (Y p.1 p.2) 0) (Finset.mem_univ (0, 0)))

/-- A fold of `max` from −∞ is the supremum. -/
theorem fold_max {ι : Type} (s : Finset ι) (f : ι → EReal) : Finset.fold max (Ideal.ofBits FTy.f32 0xFF800000#32) f s = s.sup f := by
  rw [show Ideal.ofBits FTy.f32 0xFF800000#32 = (⊥ : EReal) by simp [Ideal.ofBits, Ideal.ieee]]
  rfl

end Cert.Spec

end
-- ==== Proof.KernelValue.lean ====
/-
# KernelValue: the kernel's contents over the extended reals, by coordinates

Each block that a device multiplies, each running sum and the shared maximum, read at an index, where device `c`'s arguments are
its block of columns of the whole `X` and a copy of `W`: the sums come to the whole product's element, and the maximum to the
whole product's.
-/
module

public import proofs.«01_k».proof.Proof.Contents
public import proofs.«01_k».proof.Proof.Spec

@[expose] public section

noncomputable section

namespace Cert.KProof

open Cert.KernelIdeal Cert.KernelIdeal.Gen
open Idealize.ShloMosaic
open Idealize.ShloMosaic.TcCoe
open Cert.Spec

/-! ## The payloads at an index -/

/-- A block put in a slot is the block reshaped. -/
theorem slotOf_eq {F : FTy → Type} {e : EltTy} (X : S1024x1024.Idx → Elt F e) :
    slotOf X = shapeCast S1x1024x1024 X shapeCasts_S1024x1024_S1x1024x1024 := rfl

/-- A block of `x`, narrowed, is the block. -/
theorem narrow_apply (X : S1024x1024.Idx → EReal) (r k : Fin 1024) :
    k0_pay1 (F := Ideal) (slotOf (e := .f32) X) (ix3 0 r k) = X (ix2 r k) := by
  rw [slotOf_eq]
  pointwise [k0_pay1]

/-- Rows of `w`, narrowed, are those rows. -/
theorem narrowW_apply (X : S1024x2048.Idx → EReal) (k : Fin 1024) (n : Fin 2048) :
    k0_pay9 (F := Ideal) X (ix3 0 k n) = X (ix2 k n) := by
  pointwise [k0_pay9]

/-- The first product, -/
theorem first_apply (A : S1x1024x1024.Idx → EReal) (B : S1x1024x2048.Idx → EReal) (r : Fin 1024) (n : Fin 2048) :
    k0_pay8 (F := Ideal) A B (ix2 r n) = ∑ k : Fin 1024, A (ix3 0 r k) * B (ix3 0 k n) := by
  pointwise [k0_pay8]

/-- and each later one, added to the running sum. -/
theorem next_apply (A : S1x1024x1024.Idx → EReal) (B : S1x1024x2048.Idx → EReal) (C : S1024x2048.Idx → EReal) (r : Fin 1024) (n : Fin 2048) :
    k0_pay12 (F := Ideal) A B C (ix2 r n) = C (ix2 r n) + ∑ k : Fin 1024, A (ix3 0 r k) * B (ix3 0 k n) := by
  pointwise [k0_pay12]

/-- A device's maximum, in every place of its slot. -/
theorem amax_apply (C : S1024x2048.Idx → EReal) (i : S1x8x128.Idx) :
    k0_pay15 (F := Ideal) C i = max ((Finset.univ : Finset (Fin 1024 × Fin 2048)).sup fun p => C (ix2 p.1 p.2)) 0 := by
  pointwise [k0_pay15]
  rw [fold_max]

/-- The quantiser, its maximum taken over the whole buffer of maxima. -/
theorem quant_apply (A : S4x8x128.Idx → EReal) (C : S1024x2048.Idx → EReal) (r : Fin 1024) (n : Fin 2048) :
    k0_pay16 (F := Ideal) A C (ix2 r n)
      = quant ((Finset.univ : Finset S1x4x8x128.Idx).sup fun i => A (ix3 (i 1) (i 2) (i 3))) (C (ix2 r n)) := by
  have hu : (Finset.univ.filter fun i => reduces_S1x4x8x128_S1.drop i = ix1 0) = (Finset.univ : Finset S1x4x8x128.Idx) :=
    Finset.filter_true_of_mem fun i _ => by
      funext x
      fin_cases x
      exact Subsingleton.elim (α := Fin 1) _ _
  pointwise [k0_pay16]
  rw [hu, fold_max]
  rfl

/-! ## The blocks -/

variable {m : (ℓ : Loc nD τ sig) → Buf (Elt Ideal) ℓ} {X : SX.Idx → EReal} {W : SW.Idx → EReal}

/-- Device `c`'s `x` is its block of columns of `X`, -/
def HoldsX (m : (ℓ : Loc nD τ sig) → Buf (Elt Ideal) ℓ) (X : SX.Idx → EReal) : Prop :=
  ∀ (c : Dev nD) (r : Fin 4096) (k : Fin 1024), A0 m c (ix2 r k) = X (ix2 r (at4 c k))
/-- and its `w` is `W`. -/
def HoldsW (m : (ℓ : Loc nD τ sig) → Buf (Elt Ideal) ℓ) (W : SW.Idx → EReal) : Prop := ∀ c : Dev nD, A1 m c = W

/-- A point of the `d`-th block of 1024 rows, as a point of the array. -/
theorem rect_row {N : ℕ} {off : Fin 2 → ℕ} {d : Fin 4} (ho : off = ![1024 * d.val, 0]) (h : ∀ i, off i + (![1024, N] : Fin 2 → ℕ) i ≤ (![4096, N] : Fin 2 → ℕ) i)
    (r : Fin 1024) (k : Fin N) :
    (Rect.unit (s := ⟨2, ![4096, N]⟩) off (![1024, N] : Fin 2 → ℕ) h).emb (ix2 r k) = ix2 (at4 d r) k := by
  subst ho
  funext x
  fin_cases x
  · apply Fin.ext; show 1024 * d.val + 1 * r.val = 1024 * d.val + r.val; omega
  · apply Fin.ext; show 0 + 1 * k.val = k.val; omega

/-- The entries of the blocks: of a device's own rows of `x`, -/
theorem xOwn_apply (hX : HoldsX m X) (c : Dev nD) (r k : Fin 1024) : xOwn m c (ix2 r k) = X (ix2 (at4 c r) (at4 c k)) := by
  unfold xOwn
  rw [rect_row (d := c) (k0_off3_eq c)]
  exact hX c _ k

/-- of the rows it sends, -/
theorem xPart_apply (hX : HoldsX m X) (j : Fin 3) (c : Dev nD) (r k : Fin 1024) :
    xPart m j c (ix2 r k) = X (ix2 (at4 (fwd j c) r) (at4 c k)) := by
  unfold xPart
  rw [rect_row (d := fwd j c) (k0_off2_eq c j)]
  exact hX c _ k

/-- of its own rows of `w`, -/
theorem wOwn_apply (hW : HoldsW m W) (c : Dev nD) (k : Fin 1024) (n : Fin 2048) : wOwn m c (ix2 k n) = W (ix2 (at4 c k) n) := by
  unfold wOwn
  rw [rect_row (d := c) (k0_off1_eq c), hW c]

/-- and of the other rows. -/
theorem wPart_apply (hW : HoldsW m W) (j : Fin 3) (c : Dev nD) (k : Fin 1024) (n : Fin 2048) :
    wPart m j c (ix2 k n) = W (ix2 (at4 (fwd j c) k) n) := by
  unfold wPart
  rw [rect_row (d := fwd j c) (k0_off4_eq c j), hW c]

/-- What arrives from the device `j + 1` places back: this device's rows of that one's columns. -/
theorem sent_apply (hX : HoldsX m X) (j : Fin 3) (c : Dev nD) (r k : Fin 1024) :
    sent m j (bwd j c) (ix3 0 r k) = X (ix2 (at4 c r) (at4 (bwd j c) k)) := by
  have h : sent m j (bwd j c) (ix3 0 r k) = xPart m j (bwd j c) (ix2 r k) := by
    fin_cases j <;> exact narrow_apply _ r k
  rw [h, xPart_apply hX, fwd_bwd]

/-! ## The sums -/

/-- Forward by `3 - j` places is back by `j + 1`. -/
theorem rev_bwd (j : Fin 3) (c : Dev nD) : fwd j.rev c = bwd j c := by revert j c; decide

/-- A running sum gains the share of the device `j + 1` places back. -/
theorem next_share (hX : HoldsX m X) (hW : HoldsW m W) (j : Fin 3) (c : Dev nD) (C : S1024x2048.Idx → EReal) (r : Fin 1024) (n : Fin 2048) :
    k0_pay12 (F := Ideal) (sent m j (bwd j c)) (k0_pay9 (F := Ideal) (wPart m j.rev c)) C (ix2 r n)
      = C (ix2 r n) + share X W (bwd j c) (at4 c r) n := by
  rw [next_apply]
  congr 1
  refine Finset.sum_congr rfl fun k _ => ?_
  rw [sent_apply hX, narrowW_apply, wPart_apply hW, rev_bwd]

/-- The sum over the four devices starts with the device's own share and goes back round the ring. -/
theorem sum_ring {M : Type} [AddCommMonoid M] (f : Dev nD → M) (c : Dev nD) :
    ((f c + f (bwd 0 c)) + f (bwd 1 c)) + f (bwd 2 c) = ∑ d : Dev nD, f d := by
  have h : ∑ d : Dev nD, f d = f 0 + f 1 + f 2 + f 3 := Fin.sum_univ_four f
  rw [h]
  fin_cases c
  · show ((f 0 + f 3) + f 2) + f 1 = _; abel
  · show ((f 1 + f 0) + f 3) + f 2 = _; abel
  · show ((f 2 + f 1) + f 0) + f 3 = _; abel
  · show ((f 3 + f 2) + f 1) + f 0 = _; abel

/-- Device `c`'s sums are its rows of the whole product. -/
theorem acc3_apply (hX : HoldsX m X) (hW : HoldsW m W) (c : Dev nD) (r : Fin 1024) (n : Fin 2048) :
    acc3 m c (ix2 r n) = prod X W (at4 c r) n := by
  have h0 : acc0 m c (ix2 r n) = share X W c (at4 c r) n := by
    refine (first_apply _ _ r n).trans (Finset.sum_congr rfl fun k _ => ?_)
    rw [show kept m c (ix3 0 r k) = X (ix2 (at4 c r) (at4 c k)) from (narrow_apply _ r k).trans (xOwn_apply hX c r k),
      show wb0 m c (ix3 0 k n) = W (ix2 (at4 c k) n) from (narrowW_apply _ k n).trans (wOwn_apply hW c k n)]
  have h1 : acc1 m c (ix2 r n) = acc0 m c (ix2 r n) + share X W (bwd 0 c) (at4 c r) n := next_share hX hW 0 c _ r n
  have h2 : acc2 m c (ix2 r n) = acc1 m c (ix2 r n) + share X W (bwd 1 c) (at4 c r) n := next_share hX hW 1 c _ r n
  have h3 : acc3 m c (ix2 r n) = acc2 m c (ix2 r n) + share X W (bwd 2 c) (at4 c r) n := next_share hX hW 2 c _ r n
  rw [h3, h2, h1, h0, prod_eq]
  exact sum_ring (fun d => share X W d (at4 c r) n) c

/-! ## The maximum -/

/-- Every device's maximum lies in one of the four slots. -/
theorem src_surj (c d : Dev nD) : ∃ k : Fin 4, src k c = d := by revert c d; decide

/-- The greatest of the gathered maxima is the whole product's greatest positive part, on every device. -/
theorem top_gathered (hX : HoldsX m X) (hW : HoldsW m W) (c : Dev nD) :
    ((Finset.univ : Finset S1x4x8x128.Idx).sup fun i => amAll m c (ix3 (i 1) (i 2) (i 3))) = top (prod X W) := by
  have hs : ∀ i : S1x4x8x128.Idx, amAll m c (ix3 (i 1) (i 2) (i 3))
      = max ((Finset.univ : Finset (Fin 1024 × Fin 2048)).sup fun p => prod X W (at4 (src (i 1) c) p.1) p.2) 0 := fun i => by
    show k0_pay15 (F := Ideal) (acc3 m (src (i 1) c)) (within (ix3 (i 1) (i 2) (i 3))) = _
    rw [amax_apply]
    exact congrArg (fun M => max M 0) (Finset.sup_congr rfl fun p _ => acc3_apply hX hW _ p.1 p.2)
  rw [top_eq]
  apply le_antisymm
  · refine Finset.sup_le fun i _ => ?_
    rw [hs i]
    exact Finset.le_sup (f := fun d : Fin 4 =>
      max ((Finset.univ : Finset (Fin 1024 × Fin 2048)).sup fun p => prod X W (at4 d p.1) p.2) 0) (Finset.mem_univ (src (i 1) c))
  · refine Finset.sup_le fun d _ => ?_
    obtain ⟨k, rfl⟩ := src_surj c d
    have h := Finset.le_sup (f := fun i : S1x4x8x128.Idx => amAll m c (ix3 (i 1) (i 2) (i 3)))
      (Finset.mem_univ (ix4 (0 : Fin 1) k (0 : Fin 8) (0 : Fin 128)))
    rwa [hs] at h

/-- Device `c`'s result is its rows of the quantised product. -/
theorem outAt_apply (hX : HoldsX m X) (hW : HoldsW m W) (c : Dev nD) (r : Fin 1024) (n : Fin 2048) :
    outAt m c (ix2 r n) = quant (top (prod X W)) (prod X W (at4 c r) n) := by
  refine (quant_apply _ _ r n).trans ?_
  rw [top_gathered hX hW, acc3_apply hX hW]

end Cert.KProof

end
-- ==== Proof.RefValue.lean ====
/-
# RefValue: what the reference computes, element by element
-/
module

public import proofs.«01_k».proof.Proof.Spec
public import proofs.«01_k».proof.Proof.Gen.ReferenceIdeal.Run

@[expose] public section

noncomputable section

namespace Cert.RefValue

open Cert.ReferenceIdeal Cert.ReferenceIdeal.Gen
open Idealize.ShloMosaic Cert.Spec

/-- The reference's positive part, -/
def relu (X : FVec Ideal S4096x4096 .f32) (W : FVec Ideal S4096x2048 .f32) : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))

/-- its scale, -/
def scale (X : FVec Ideal S4096x4096 .f32) (W : FVec Ideal S4096x2048 .f32) : FVec Ideal S_ .f32 :=
  Host.divf (Host.reduce FloatOps.maximumf (Host.absf (relu X W)) (constant S_ .f32 0xFF800000#32) reducesTo_S4096x2048_S_d0_1 h_S_)
    (constant S_ .f32 0x42FE0000#32)

/-- and its result. -/
def refOut (X : FVec Ideal S4096x4096 .f32) (W : FVec Ideal S4096x2048 .f32) : FVec Ideal S4096x2048 .bf16 :=
  truncf .bf16 (mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (relu X W) (broadcastInDim S4096x2048 ![] bcast_S_S4096x2048 (scale X W))))))
    (broadcastInDim S4096x2048 ![] bcast_S_S4096x2048 (scale X W))) bitsLt_bf16_f32

/-- The positive part of an element of the product; -/
theorem relu_apply (X : SX.Idx → EReal) (W : SW.Idx → EReal) (r : Fin 4096) (n : Fin 2048) :
    relu X W (ix2 r n) = max (prod X W r n) 0 := by
  unfold prod
  pointwise [relu]

/-- the scale is the greatest of them over 127; -/
theorem scale_apply (X : SX.Idx → EReal) (W : SW.Idx → EReal) (i : S_.Idx) :
    scale X W i = Ideal.div (top (prod X W)) bound := by
  unfold top bound
  pointwise [scale]
  have hf : ((Finset.univ : Finset (Fin 4096 × Fin 2048)).sup fun k => (FloatOps.absf (relu X W (ix2 k.1 k.2)) : EReal))
      = Finset.univ.sup fun p : Fin 4096 × Fin 2048 => max (prod X W p.1 p.2) 0 := by
    refine Finset.sup_congr rfl fun p _ => ?_
    rw [relu_apply]
    exact max_eq_left (le_trans (EReal.neg_le_neg_iff.mpr (le_max_right _ _)) (by simp))
  rw [fold_max, hf]

/-- and the result is the quantised element. -/
theorem refOut_apply (X : SX.Idx → EReal) (W : SW.Idx → EReal) (r : Fin 4096) (n : Fin 2048) :
    refOut X W (ix2 r n) = quant (top (prod X W)) (prod X W r n) := by
  unfold quant boundNeg bound
  pointwise [refOut, relu_apply, scale_apply, id]
  rfl

end Cert.RefValue

end
-- ==== Proof.Final.lean ====
/-
# Final: the result's array, and the two programs' equality

The result's array ends holding `outAt`, since its one block is the whole array, and over the extended reals that is the device's
rows of what the reference computes.
-/
module

public import proofs.«01_k».proof.Proof.Run
public import proofs.«01_k».proof.Proof.Gen.KernelIdeal.Points
public import proofs.«01_k».proof.Proof.KernelValue
public import proofs.«01_k».proof.Proof.RefValue

@[expose] public section

noncomputable section

namespace Cert.KProof

open Cert.KernelIdeal Cert.KernelIdeal.Gen
open Idealize.ShloMosaic
open Idealize.ShloMosaic.TcCoe

section Array

variable {F : FTy → Type} [FloatOps F] (m : (ℓ : Loc nD τ sig) → Buf (Elt F) ℓ)

/-- The window's one block is the whole array. -/
theorem whole_index (t : Fin cfg0.N) (a : Fin 2) :
    win0_0.index t a * win0_0.size a = 0 ∧ win0_0.xsize (grid0.coords t) a = S1024x2048.size a := by
  revert t a; decide +kernel

/-- The one write-back writes the computed contents: the block is the whole array. -/
theorem written (c : Dev nD) (t : Fin cfg0.N) :
    (dats m 0 c).flushed 0 t = ((cfg0.win 0).blk t).view.read (Elt F) (outAt m c) := by
  have hz : (fun a => win0_0.index t a * main_v1.ty.shape.size a) = fun _ => 0 := by
    funext a; exact (whole_index t a).1
  exact (Memref.read_access_unit_zero (Elt F) main_v1 hz (fun a => by rw [congrFun hz a]; simp) (outAt m c)).symm

/-- And it reaches every index of the array. -/
theorem covered (i : S1024x2048.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  intro a
  show win0_0.index t0_0 a * win0_0.size a ≤ (i a : Nat) ∧ (i a : Nat) < win0_0.index t0_0 a * win0_0.size a + win0_0.xsize (grid0.coords t0_0) a
  rw [(whole_index t0_0 a).1, (whole_index t0_0 a).2]
  exact ⟨Nat.zero_le _, (Nat.zero_add _).symm ▸ (i a).isLt⟩

/-- The result's array ends holding the computed contents. -/
theorem finalA_eq (c : Dev nD) : finalA m c = outAt m c :=
  (dats m 0 c).arrAt_eq_of_cover 0 (outAt m c) (fun t _ => written m c t) covered

end Array

open Cert.Spec

/-- Device `c`'s contents are its block of rows of the reference's result. -/
theorem outAt_eq_block {m : (ℓ : Loc nD τ sig) → Buf (Elt Ideal) ℓ} {X : SX.Idx → EReal} {W : SW.Idx → EReal}
    (hX : HoldsX m X) (hW : HoldsW m W) (c : Dev nD) :
    outAt m c = Layout.block ⟨2, ![1024, 2048]⟩ ⟨2, ![4096, 2048]⟩ 0 4 c (Cert.RefValue.refOut X W) := by
  funext i
  obtain ⟨r, n, rfl⟩ : ∃ r n, i = ix2 r n := ⟨i 0, i 1, eq_ix2 i⟩
  rw [outAt_apply hX hW, Layout.block_apply,
    show (Layout.Tiles.idx (S := ⟨2, ![1024, 2048]⟩) (T := ⟨2, ![4096, 2048]⟩) (a := 0) (k := 4) (by decide) c (ix2 r n)) = ix2 (at4 c r) n from by
      funext x
      fin_cases x
      · apply Fin.ext; show c.val * 1024 + r.val = 1024 * c.val + r.val; omega
      · rfl,
    Cert.RefValue.refOut_apply]

/-- An argument that is device `c`'s block of columns of the reference's, by coordinates. -/
theorem holdsX_of_block {m : (ℓ : Loc nD τ sig) → Buf (Elt Ideal) ℓ} {X : SX.Idx → EReal}
    (h : ∀ c : Dev nD, A0 m c = Layout.block ⟨2, ![4096, 1024]⟩ ⟨2, ![4096, 4096]⟩ 1 4 c X) : HoldsX m X := by
  intro c r k
  rw [h c, Layout.block_apply]
  congr 1
  funext x
  fin_cases x
  · rfl
  · apply Fin.ext; show c.val * 1024 + k.val = 1024 * c.val + k.val; omega

end Cert.KProof

end
-- ==== Proof.lean ====
/- The proof of all five claims: the kernel and the idealized kernel run to the end, so does the reference, the idealized kernel
   is the kernel's own text, and over the extended reals each device's result is its block of rows of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.ShloMosaic.TcCoe Idealize.SL.Sem

/-- The compiled kernel's body table is the idealized one's: no operation was replaced, -/
theorem bodies_eq : @Cert.Kernel.defs₀ Bits _ _ = @Cert.KernelIdeal.defs₀ Bits _ _ := by
  funext p l a
  match p, l, a with
  | .tc, ⟨0, _⟩, (t, s) => rfl
  | .scScalar _, _, _ => rfl
  | .scVector _ _, _, _ => rfl

/-- and so are the definitions its launch runs. -/
theorem launched_eq : @Cert.Kernel.defs Bits _ _ = @Cert.KernelIdeal.defs Bits _ _ := by
  unfold Cert.Kernel.defs Cert.KernelIdeal.defs
  exact congrArg _ bodies_eq

/-- The kernel as compiled runs to the end without a fault, leaves both arguments as they were on every device, and leaves
    every semaphore's counter at zero: the idealized program's run, read at machine words. -/
theorem frame_kernel : Cert.quiescent_Kernel := fun m ρ _ => by
  rw [launched_eq]
  exact (θ_run Cert.KernelIdeal.defs _ _).mono (fun _ h => ⟨fun c => ⟨(h.1 c).2.1, (h.1 c).2.2⟩, h.2⟩)
    (Cert.KProof.run_main (F := Bits) m ρ)

/-- The same of the idealized kernel, over the extended reals. -/
theorem frame_kernelIdeal : Cert.quiescent_KernelIdeal := fun m ρ _ =>
  (θ_run Cert.KernelIdeal.defs _ _).mono (fun _ h => ⟨fun c => ⟨(h.1 c).2.1, (h.1 c).2.2⟩, h.2⟩)
    (Cert.KProof.run_main (F := Ideal) m ρ)

/-- The same of the reference, which has no semaphore at all. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where each device's arguments are its parts of the reference's, both programs run, and each device's result is its block of
    rows of the reference's: over the extended reals the kernel computes the quantised product. -/
theorem algebraic : Cert.algebraic_KernelIdeal_ReferenceIdeal := fun m g m' g' _ hagree =>
  ⟨_, (θ_run Cert.KernelIdeal.defs _ _).mono
      (fun _ h c => ⟨(h.1 c).1.trans ((Cert.KProof.finalA_eq m c).trans (Cert.KProof.outAt_eq_block
        (Cert.KProof.holdsX_of_block fun c => (hagree c).1) (fun c => (hagree c).2) c)), (h.1 c).2⟩)
      (Cert.KProof.run_main (F := Ideal) m g),
    (θ_run Cert.ReferenceIdeal.defs _ _).mono (fun _ h => h 0) (Cert.ReferenceIdeal.Value.run (F := Ideal) m' g')⟩

/-- All that is claimed. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
